-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_stepped [hPre_stepped : Cert.Pre_stepped.Facts] (m : (ℓ : Loc Cert.KernelIdeal.nD Cert.KernelIdeal.τ Cert.KernelIdeal.sig) → Buf (Elt Ideal) ℓ) : Prop :=
  ∀ c : Dev Cert.KernelIdeal.nD,
    (Cert.Pre_stepped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_PlainIdeal (m : (ℓ : Loc Cert.PlainIdeal.nD Cert.PlainIdeal.τ Cert.PlainIdeal.sig) → Buf (Elt Ideal) ℓ) : Prop :=
  True

def Pre_PlainIdeal_stepped [hPre_stepped : Cert.Pre_stepped.Facts] (m : (ℓ : Loc Cert.PlainIdeal.nD Cert.PlainIdeal.τ Cert.PlainIdeal.sig) → Buf (Elt Ideal) ℓ) : Prop :=
  ∀ c : Dev Cert.PlainIdeal.nD,
    (Cert.Pre_stepped.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2)) (m ((c.tc : Thread Cert.PlainIdeal.nD Cert.PlainIdeal.τ).loc Cert.PlainIdeal.main_arg3)) (m ((c.tc : Thread Cert.PlainIdeal.nD Cert.PlainIdeal.τ).loc Cert.PlainIdeal.main_arg4)) (m ((c.tc : Thread Cert.PlainIdeal.nD Cert.PlainIdeal.τ).loc Cert.PlainIdeal.main_arg5)) (m ((c.tc : Thread Cert.PlainIdeal.nD Cert.PlainIdeal.τ).loc Cert.PlainIdeal.main_arg6)) (m ((c.tc : Thread Cert.PlainIdeal.nD Cert.PlainIdeal.τ).loc Cert.PlainIdeal.main_arg7)) (m ((c.tc : Thread Cert.PlainIdeal.nD Cert.PlainIdeal.τ).loc Cert.PlainIdeal.main_arg8)) (m ((c.tc : Thread Cert.PlainIdeal.nD Cert.PlainIdeal.τ).loc Cert.PlainIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_stepped [hKernelIdeal : Cert.KernelIdeal.Facts] [hPre_stepped : Cert.Pre_stepped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stepped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
      ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
      ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8)
      ∧ r.2.mem ((c.tc : Thread Cert.PlainIdeal.nD Cert.PlainIdeal.τ).loc Cert.PlainIdeal.main_arg9) = m ((c.tc : Thread Cert.PlainIdeal.nD Cert.PlainIdeal.τ).loc Cert.PlainIdeal.main_arg9))
      ∧ r.2.sem = fun _ => 0)

def quiescent_PlainIdeal_pre_stepped [hPlainIdeal : Cert.PlainIdeal.Facts] [hPre_stepped : Cert.Pre_stepped.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal_stepped m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
      ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
      ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8)
      ∧ r.2.mem ((c.tc : Thread Cert.PlainIdeal.nD Cert.PlainIdeal.τ).loc Cert.PlainIdeal.main_arg9) = m ((c.tc : Thread Cert.PlainIdeal.nD Cert.PlainIdeal.τ).loc Cert.PlainIdeal.main_arg9))
      ∧ r.2.sem = fun _ => 0)

def preserves_Kernel_KernelIdeal : Prop :=
  IdealRules.named_const.Statement Cert.KernelIdeal.κ "inv_n" .f32 0x38D1B717#32 ((1 / 10000 : ℝ) : EReal)
  ∧ IdealRules.named_const.Statement Cert.KernelIdeal.κ "step" .f32 0x3B808081#32 ((1 / 255 : ℝ) : EReal)
  ∧ IdealRules.named_const.Statement Cert.KernelIdeal.κ "shift" .f32 0x3F008081#32 ((128 / 255 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def algebraic_KernelIdeal_PlainIdeal_pre_stepped [hKernelIdeal : Cert.KernelIdeal.Facts] [hPlainIdeal : Cert.PlainIdeal.Facts] [hPre_stepped : Cert.Pre_stepped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PlainIdeal.nD Cert.PlainIdeal.τ Cert.PlainIdeal.sig) → Buf (Elt Ideal) ℓ) (g' : Dev Cert.PlainIdeal.nD → PrngReg), Pre_KernelIdeal_stepped m →
    (∀ c : Dev Cert.KernelIdeal.nD,
      m' ((c.tc : Thread Cert.PlainIdeal.nD Cert.PlainIdeal.τ).loc Cert.PlainIdeal.main_arg0) = m ((c.tc : Thread Cert.KernelIdeal.nD Cert.KernelIdeal.τ).loc Cert.KernelIdeal.main_arg0)
      ∧ m' ((c.tc : Thread Cert.PlainIdeal.nD Cert.PlainIdeal.τ).loc Cert.PlainIdeal.main_arg1) = m ((c.tc : Thread Cert.KernelIdeal.nD Cert.KernelIdeal.τ).loc Cert.KernelIdeal.main_arg1)
      ∧ m' ((c.tc : Thread Cert.PlainIdeal.nD Cert.PlainIdeal.τ).loc Cert.PlainIdeal.main_arg2) = m ((c.tc : Thread Cert.KernelIdeal.nD Cert.KernelIdeal.τ).loc Cert.KernelIdeal.main_arg2)
      ∧ m' ((c.tc : Thread Cert.PlainIdeal.nD Cert.PlainIdeal.τ).loc Cert.PlainIdeal.main_arg3) = m ((c.tc : Thread Cert.KernelIdeal.nD Cert.KernelIdeal.τ).loc Cert.KernelIdeal.main_arg3)
      ∧ m' ((c.tc : Thread Cert.PlainIdeal.nD Cert.PlainIdeal.τ).loc Cert.PlainIdeal.main_arg4) = m ((c.tc : Thread Cert.KernelIdeal.nD Cert.KernelIdeal.τ).loc Cert.KernelIdeal.main_arg4)
      ∧ m' ((c.tc : Thread Cert.PlainIdeal.nD Cert.PlainIdeal.τ).loc Cert.PlainIdeal.main_arg5) = m ((c.tc : Thread Cert.KernelIdeal.nD Cert.KernelIdeal.τ).loc Cert.KernelIdeal.main_arg5)
      ∧ m' ((c.tc : Thread Cert.PlainIdeal.nD Cert.PlainIdeal.τ).loc Cert.PlainIdeal.main_arg6) = m ((c.tc : Thread Cert.KernelIdeal.nD Cert.KernelIdeal.τ).loc Cert.KernelIdeal.main_arg6)
      ∧ m' ((c.tc : Thread Cert.PlainIdeal.nD Cert.PlainIdeal.τ).loc Cert.PlainIdeal.main_arg7) = m ((c.tc : Thread Cert.KernelIdeal.nD Cert.KernelIdeal.τ).loc Cert.KernelIdeal.main_arg7)
      ∧ m' ((c.tc : Thread Cert.PlainIdeal.nD Cert.PlainIdeal.τ).loc Cert.PlainIdeal.main_arg8) = m ((c.tc : Thread Cert.KernelIdeal.nD Cert.KernelIdeal.τ).loc Cert.KernelIdeal.main_arg8)
      ∧ m' ((c.tc : Thread Cert.PlainIdeal.nD Cert.PlainIdeal.τ).loc Cert.PlainIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.PlainIdeal.defs (F := Ideal)) (onTc (τ := Cert.PlainIdeal.τ) (Cert.PlainIdeal.main (F := Ideal))) ⟨m', fun _ => 0, g'⟩ (fun r => ∀ c : Dev Cert.PlainIdeal.nD,
          r.2.mem ((c.tc : Thread Cert.PlainIdeal.nD Cert.PlainIdeal.τ).loc Cert.PlainIdeal.main_v49) = v0 c
          ∧ r.2.mem ((c.tc : Thread Cert.PlainIdeal.nD Cert.PlainIdeal.τ).loc Cert.PlainIdeal.main_arg0) = m' ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m' ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m' ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m' ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m' ((c.tc : Thread Cert.PlainIdeal.nD Cert.PlainIdeal.τ).loc Cert.PlainIdeal.main_arg4)
          ∧ r.2.mem ((c.tc : Thread Cert.PlainIdeal.nD Cert.PlainIdeal.τ).loc Cert.PlainIdeal.main_arg5) = m' ((c.tc : Thread Cert.PlainIdeal.nD Cert.PlainIdeal.τ).loc Cert.PlainIdeal.main_arg5)
          ∧ r.2.mem ((c.tc : Thread Cert.PlainIdeal.nD Cert.PlainIdeal.τ).loc Cert.PlainIdeal.main_arg6) = m' ((c.tc : Thread Cert.PlainIdeal.nD Cert.PlainIdeal.τ).loc Cert.PlainIdeal.main_arg6)
          ∧ r.2.mem ((c.tc : Thread Cert.PlainIdeal.nD Cert.PlainIdeal.τ).loc Cert.PlainIdeal.main_arg7) = m' ((c.tc : Thread Cert.PlainIdeal.nD Cert.PlainIdeal.τ).loc Cert.PlainIdeal.main_arg7)
          ∧ r.2.mem ((c.tc : Thread Cert.PlainIdeal.nD Cert.PlainIdeal.τ).loc Cert.PlainIdeal.main_arg8) = m' ((c.tc : Thread Cert.PlainIdeal.nD Cert.PlainIdeal.τ).loc Cert.PlainIdeal.main_arg8)
          ∧ r.2.mem ((c.tc : Thread Cert.PlainIdeal.nD Cert.PlainIdeal.τ).loc Cert.PlainIdeal.main_arg9) = m' ((c.tc : Thread Cert.PlainIdeal.nD Cert.PlainIdeal.τ).loc Cert.PlainIdeal.main_arg9))

def Claim : Prop :=
  ∃ (hKernel : Cert.Kernel.Facts) (hKernelIdeal : Cert.KernelIdeal.Facts) (hReferenceIdeal : Cert.ReferenceIdeal.Facts) (hPlainIdeal : Cert.PlainIdeal.Facts) (hPre_finite : Cert.Pre_finite.Facts) (hPre_stepped : Cert.Pre_stepped.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_stepped (hKernelIdeal := hKernelIdeal) (hPre_stepped := hPre_stepped)
    ∧ quiescent_ReferenceIdeal (hReferenceIdeal := hReferenceIdeal)
    ∧ quiescent_ReferenceIdeal_pre_finite (hReferenceIdeal := hReferenceIdeal) (hPre_finite := hPre_finite)
    ∧ quiescent_PlainIdeal (hPlainIdeal := hPlainIdeal)
    ∧ quiescent_PlainIdeal_pre_stepped (hPlainIdeal := hPlainIdeal) (hPre_stepped := hPre_stepped)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_PlainIdeal_pre_stepped (hKernelIdeal := hKernelIdeal) (hPlainIdeal := hPlainIdeal) (hPre_stepped := hPre_stepped)
-- ==== Pre_finite.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S128 .f32) (main_arg5 : FVec F S128 .f32) (main_arg6 : FVec F S128x64 .f32) (main_arg7 : FVec F S64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Pre_stepped.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x10000 : S_.BroadcastsInDim S10000x10000 (![] : Fin 0 → Fin S10000x10000.rank)
  bcast_S_S10000x128 : S_.BroadcastsInDim S10000x128 (![] : Fin 0 → Fin S10000x128.rank)
  reducesTo_S10000x128_S_d0_1 : S10000x128.ReducesTo [0, 1] S_
  h_S_ : 0 < S_.numel
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_part2 {F : FTy → Type} [FloatOps F] (main_arg6 : FVec F S128x64 .f32) (main_arg7 : FVec F S64 .f32) (main_arg8 : FVec F S64 .f32) (main_v32 : IVec S_ 1) : IVec S_ 1 :=
  let main_v33 : FVec F S128x64 .f32 := Host.absf main_arg6
  let main_cst_13 : FVec F S_ .f32 := constant S_ .f32 0x7F800000#32
  let main_v34 : FVec F S128x64 .f32 := broadcastInDim S128x64 ![] bcast_S_S128x64 main_cst_13
  let main_v35 : IVec S128x64 1 := cmpf .olt main_v33 main_v34
  let main_c_14 : IVec S_ 1 := constantI S_ 1 1#1
  let main_v36 : IVec S_ 1 := (fun x v => Host.reduce IntOp.andi x v reducesTo_S128x64_S_d0_1 h_S_) main_v35 main_c_14
  let main_v37 : IVec S_ 1 := andi main_v32 main_v36
  let main_v38 : FVec F S64 .f32 := Host.absf main_arg7
  let main_cst_15 : FVec F S_ .f32 := constant S_ .f32 0x7F800000#32
  let main_v39 : FVec F S64 .f32 := broadcastInDim S64 ![] bcast_S_S64 main_cst_15
  let main_v40 : IVec S64 1 := cmpf .olt main_v38 main_v39
  let main_c_16 : IVec S_ 1 := constantI S_ 1 1#1
  let main_v41 : IVec S_ 1 := (fun x v => Host.reduce IntOp.andi x v reducesTo_S64_S_d0 h_S_) main_v40 main_c_16
  let main_v42 : IVec S_ 1 := andi main_v37 main_v41
  let main_v43 : FVec F S64 .f32 := Host.absf main_arg8
  let main_cst_17 : FVec F S_ .f32 := constant S_ .f32 0x7F800000#32
  let main_v44 : FVec F S64 .f32 := broadcastInDim S64 ![] bcast_S_S64 main_cst_17
  let main_v45 : IVec S64 1 := cmpf .olt main_v43 main_v44
  let main_c_18 : IVec S_ 1 := constantI S_ 1 1#1
  let main_v46 : IVec S_ 1 := (fun x v => Host.reduce IntOp.andi x v reducesTo_S64_S_d0 h_S_) main_v45 main_c_18
  let main_v47 : IVec S_ 1 := andi main_v42 main_v46
  main_v47

def fn_part1 {F : FTy → Type} [FloatOps F] (main_arg3 : FVec F S128 .f32) (main_arg4 : FVec F S128 .f32) (main_arg5 : FVec F S128 .f32) (main_arg6 : FVec F S128x64 .f32) (main_arg7 : FVec F S64 .f32) (main_arg8 : FVec F S64 .f32) (main_v12 : IVec S_ 1) (main_v15 : IVec S128x128 1) : IVec S_ 1 :=
  let main_c_6 : IVec S_ 1 := constantI S_ 1 1#1
  let main_v16 : IVec S_ 1 := (fun x v => Host.reduce IntOp.andi x v reducesTo_S128x128_S_d0_1 h_S_) main_v15 main_c_6
  let main_v17 : IVec S_ 1 := andi main_v12 main_v16
  let main_v18 : FVec F S128 .f32 := Host.absf main_arg3
  let main_cst_7 : FVec F S_ .f32 := constant S_ .f32 0x7F800000#32
  let main_v19 : FVec F S128 .f32 := broadcastInDim S128 ![] bcast_S_S128 main_cst_7
  let main_v20 : IVec S128 1 := cmpf .olt main_v18 main_v19
  let main_c_8 : IVec S_ 1 := constantI S_ 1 1#1
  let main_v21 : IVec S_ 1 := (fun x v => Host.reduce IntOp.andi x v reducesTo_S128_S_d0 h_S_) main_v20 main_c_8
  let main_v22 : IVec S_ 1 := andi main_v17 main_v21
  let main_v23 : FVec F S128 .f32 := Host.absf main_arg4
  let main_cst_9 : FVec F S_ .f32 := constant S_ .f32 0x7F800000#32
  let main_v24 : FVec F S128 .f32 := broadcastInDim S128 ![] bcast_S_S128 main_cst_9
  let main_v25 : IVec S128 1 := cmpf .olt main_v23 main_v24
  let main_c_10 : IVec S_ 1 := constantI S_ 1 1#1
  let main_v26 : IVec S_ 1 := (fun x v => Host.reduce IntOp.andi x v reducesTo_S128_S_d0 h_S_) main_v25 main_c_10
  let main_v27 : IVec S_ 1 := andi main_v22 main_v26
  let main_v28 : FVec F S128 .f32 := Host.absf main_arg5
  let main_cst_11 : FVec F S_ .f32 := constant S_ .f32 0x7F800000#32
  let main_v29 : FVec F S128 .f32 := broadcastInDim S128 ![] bcast_S_S128 main_cst_11
  let main_v30 : IVec S128 1 := cmpf .olt main_v28 main_v29
  let main_c_12 : IVec S_ 1 := constantI S_ 1 1#1
  let main_v31 : IVec S_ 1 := (fun x v => Host.reduce IntOp.andi x v reducesTo_S128_S_d0 h_S_) main_v30 main_c_12
  let main_v32 : IVec S_ 1 := andi main_v27 main_v31
  fn_part2 (F := F) main_arg6 main_arg7 main_arg8 main_v32

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) : IVec S_ 1 :=
  let main_cst : FVec F S_ .f32 := constant S_ .f32 0x437F0000#32
  let main_v0 : FVec F S10000x10000 .f32 := broadcastInDim S10000x10000 ![] bcast_S_S10000x10000 main_cst
  let main_v1 : FVec F S10000x10000 .f32 := mulf main_arg1 main_v0
  let main_v2 : FVec F S10000x10000 .f32 := fn_round (F := F) main_v1
  let main_cst_0 : FVec F S_ .f32 := constant S_ .f32 0x00000000#32
  let main_cst_1 : FVec F S_ .f32 := constant S_ .f32 0x437F0000#32
  let main_v3 : FVec F S10000x10000 .f32 := fn_clip (F := F) main_v2 main_cst_0 main_cst_1
  let main_cst_2 : FVec F S_ .f32 := constant S_ .f32 0x437F0000#32
  let main_v4 : FVec F S10000x10000 .f32 := broadcastInDim S10000x10000 ![] bcast_S_S10000x10000 main_cst_2
  let main_v5 : FVec F S10000x10000 .f32 := Host.divf main_v3 main_v4
  let main_v6 : IVec S10000x10000 1 := cmpf .oeq main_v5 main_arg1
  let main_v7 : FVec F S10000x128 .f32 := Host.absf main_arg0
  let main_cst_3 : FVec F S_ .f32 := constant S_ .f32 0x7F800000#32
  let main_v8 : FVec F S10000x128 .f32 := broadcastInDim S10000x128 ![] bcast_S_S10000x128 main_cst_3
  let main_v9 : IVec S10000x128 1 := cmpf .olt main_v7 main_v8
  let main_c : IVec S_ 1 := constantI S_ 1 1#1
  let main_v10 : IVec S_ 1 := (fun x v => Host.reduce IntOp.andi x v reducesTo_S10000x128_S_d0_1 h_S_) main_v9 main_c
  let main_c_4 : IVec S_ 1 := constantI S_ 1 1#1
  let main_v11 : IVec S_ 1 := (fun x v => Host.reduce IntOp.andi x v reducesTo_S10000x10000_S_d0_1 h_S_) main_v6 main_c_4
  let main_v12 : IVec S_ 1 := andi main_v10 main_v11
  let main_v13 : FVec F S128x128 .f32 := Host.absf main_arg2
  let main_cst_5 : FVec F S_ .f32 := constant S_ .f32 0x7F800000#32
  let main_v14 : FVec F S128x128 .f32 := broadcastInDim S128x128 ![] bcast_S_S128x128 main_cst_5
  let main_v15 : IVec S128x128 1 := cmpf .olt main_v13 main_v14
  fn_part1 (F := F) main_arg3 main_arg4 main_arg5 main_arg6 main_arg7 main_arg8 main_v12 main_v15
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S10000x64 : Shape := ⟨2, ![10000, 64]⟩
abbrev S1x64 : Shape := ⟨2, ![1, 64]⟩
abbrev S400x10000 : Shape := ⟨2, ![400, 10000]⟩
abbrev S400x128 : Shape := ⟨2, ![400, 128]⟩
abbrev S1000x10000 : Shape := ⟨2, ![1000, 10000]⟩
abbrev S1000x64 : Shape := ⟨2, ![1000, 64]⟩

abbrev nBuf : Space → Nat
  | .hbm => 18
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x128, .f32⟩
  | .hbm, ⟨11, _⟩ => ⟨S1x128, .f32⟩
  | .hbm, ⟨12, _⟩ => ⟨S10000x10000, .i8⟩
  | .hbm, ⟨13, _⟩ => ⟨S10000x64, .bf16⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x64, .f32⟩
  | .local _ .vmem, ⟨5, _⟩ => ⟨S400x10000, .f32⟩
  | .local _ .vmem, ⟨6, _⟩ => ⟨S400x10000, .f32⟩
  | .local _ .vmem, ⟨7, _⟩ => ⟨S400x10000, .i8⟩
  | .local _ .vmem, ⟨8, _⟩ => ⟨S400x10000, .i8⟩
  | .local _ .vmem, ⟨9, _⟩ => ⟨S10000x64, .bf16⟩
  | .local _ .vmem, ⟨10, _⟩ => ⟨S1x64, .f32⟩
  | .local _ .vmem, ⟨11, _⟩ => ⟨S10000x128, .bf16⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S1x64, .f32⟩
  | .local _ .vmem, ⟨16, _⟩ => ⟨S1x64, .f32⟩
  | .local _ .vmem, ⟨17, _⟩ => ⟨S10000x64, .bf16⟩
  | .local _ .vmem, ⟨18, _⟩ => ⟨S1x64, .f32⟩
  | .local _ .vmem, ⟨19, _⟩ => ⟨S1000x10000, .i8⟩
  | .local _ .vmem, ⟨20, _⟩ => ⟨S1000x10000, .i8⟩
  | .local _ .vmem, ⟨21, _⟩ => ⟨S10000x64, .f32⟩
  | .local _ .vmem, ⟨22, _⟩ => ⟨S10000x64, .f32⟩
  | .local _ .vmem, ⟨23, _⟩ => ⟨S1x64, .f32⟩
  | .local _ .vmem, ⟨24, _⟩ => ⟨S1x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2_0 : Ref sig .tc := ⟨.hbm, 12, rfl⟩
abbrev main_call0_v2_1 : Ref sig .tc := ⟨.hbm, 13, rfl⟩
abbrev main_call0_v2_2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_4 : Index := 0#32
  ![v8.toNat, 0]
def k0_cond2 (i : grid0.Coords) : BitVec 1 :=
  let arg0 : BitVec 32 := BitVec.ofNat 32 (i 0).val
  let c24_i32 : BitVec 32 := 24#32
  let v34 : BitVec 1 := Scalar.cmpi .eq arg0 c24_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S10000x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def k1_off1 (i : grid1.Coords) : Fin 2 → Nat :=
  let arg0 : BitVec 32 := BitVec.ofNat 32 (i 0).val
  let c1000_i32 : BitVec 32 := 1000#32
  let v17 : BitVec 32 := Scalar.muli arg0 c1000_i32
  let v18 : Index := Scalar.indexCast v17
  let c0_8 : Index := 0#32
  ![v18.toNat, 0]
def k1_cond2 (i : grid1.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_19 : BitVec 32 := 0#32
  let v39 : BitVec 1 := Scalar.cmpi .ne v38 c0_i32_19
  v39

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x10000 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S10000x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== KernelIdeal.lean ====
variable {F : FTy → Type} [FloatOps F] [Named F]
def κ : String → Option EReal := fun
  | "inv_n" => some ((1 / 10000 : ℝ) : EReal)
  | "shift" => some ((128 / 255 : ℝ) : EReal)
  | "step" => some ((1 / 255 : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S10000x128, .f32⟩
  | 11 => ⟨S10000x128, .f32⟩
  | 12 => ⟨S1x128, .f32⟩
  | 13 => ⟨S10000x128, .f32⟩
  | 14 => ⟨S10000x128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S10000x128, .f32⟩
  | 28 => ⟨S10000x128, .f32⟩
  | 29 => ⟨S10000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S10000x128, .f32⟩
  | 45 => ⟨S10000x128, .f32⟩
  | 46 => ⟨S_, .f32⟩
  | 47 => ⟨S128, .f32⟩
  | 48 => ⟨S128, .f32⟩
  | 49 => ⟨S128, .f32⟩
  | 50 => ⟨S1x128, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S1x128, .f32⟩
  | 57 => ⟨S10000x128, .f32⟩
  | 58 => ⟨S10000x128, .f32⟩
  | 59 => ⟨S_, .f32⟩
  | 60 => ⟨S10000x128, .f32⟩
  | 61 => ⟨S10000x128, .f32⟩
  | 62 => ⟨S_, .f32⟩
  | 63 => ⟨S10000x10000, .f32⟩
  | 64 => ⟨S10000x10000, .f32⟩
  | 65 => ⟨S10000x10000, .f32⟩
  | 66 => ⟨S_, .f32⟩
  | 67 => ⟨S_, .f32⟩
  | 68 => ⟨S_, .f32⟩
  | 69 => ⟨S10000x10000, .f32⟩
  | 70 => ⟨S10000x10000, .f32⟩
  | 71 => ⟨S_, .f32⟩
  | 72 => ⟨S10000x10000, .f32⟩
  | 73 => ⟨S10000x10000, .f32⟩
  | 74 => ⟨S_, .f32⟩
  | 75 => ⟨S10000x10000, .f32⟩
  | 76 => ⟨S10000x10000, .f32⟩
  | 77 => ⟨S10000x64, .f32⟩
  | 78 => ⟨S10000x64, .f32⟩
  | 79 => ⟨S1x64, .f32⟩
  | 80 => ⟨S10000x64, .f32⟩
  | 81 => ⟨S10000x64, .f32⟩
  | 82 => ⟨S_, .f32⟩
  | 83 => ⟨S64, .f32⟩
  | 84 => ⟨S_, .f32⟩
  | 85 => ⟨S64, .f32⟩
  | 86 => ⟨S64, .f32⟩
  | 87 => ⟨S_, .i32⟩
  | 88 => ⟨S_, .f32⟩
  | 89 => ⟨S64, .f32⟩
  | 90 => ⟨S1x64, .f32⟩
  | 91 => ⟨S_, .f32⟩
  | 92 => ⟨S1x64, .f32⟩
  | 93 => ⟨S1x64, .f32⟩
  | 94 => ⟨S10000x64, .f32⟩
  | 95 => ⟨S10000x64, .f32⟩
  | 96 => ⟨S10000x64, .f32⟩
  | 97 => ⟨S_, .f32⟩
  | 98 => ⟨S_, .f32⟩
  | 99 => ⟨S_, .f32⟩
  | 100 => ⟨S_, .f32⟩
  | 101 => ⟨S64, .f32⟩
  | 102 => ⟨S64, .f32⟩
  | 103 => ⟨S64, .f32⟩
  | 104 => ⟨S_, .f32⟩
  | 105 => ⟨S_, .i1⟩
  | 106 => ⟨S_, .f32⟩
  | 107 => ⟨S_, .f32⟩
  | 108 => ⟨S64, .f32⟩
  | 109 => ⟨S64, .f32⟩
  | 110 => ⟨S1x64, .f32⟩
  | 111 => ⟨S10000x64, .f32⟩
  | 112 => ⟨S10000x64, .f32⟩
  | 113 => ⟨S_, .f32⟩
  | 114 => ⟨S64, .f32⟩
  | 115 => ⟨S64, .f32⟩
  | 116 => ⟨S64, .f32⟩
  | 117 => ⟨S1x64, .f32⟩
  | 118 => ⟨S10000x64, .f32⟩
  | 119 => ⟨S10000x64, .f32⟩
  | 120 => ⟨S1x64, .f32⟩
  | 121 => ⟨S10000x64, .f32⟩
  | 122 => ⟨S10000x64, .f32⟩
  | 123 => ⟨S1x64, .f32⟩
  | 124 => ⟨S10000x64, .f32⟩
  | 125 => ⟨S10000x64, .f32⟩
  | 126 => ⟨S_, .f32⟩
  | 127 => ⟨S10000x64, .f32⟩
  | _ => ⟨S10000x128, .f32⟩

abbrev hbmTy0_1 (i : Nat) : BufTy := match i % 128 with
  | 0 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_call1_cst : Ref sig .tc := ⟨.hbm, 59, rfl⟩
abbrev main_call1_v0 : Ref sig .tc := ⟨.hbm, 60, rfl⟩
abbrev main_v24 : Ref sig .tc := ⟨.hbm, 61, rfl⟩
abbrev main_cst_2 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_3 : Ref sig .tc := ⟨.hbm, 66, rfl⟩
abbrev main_cst_4 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v28 : Ref sig .tc := ⟨.hbm, 73, rfl⟩
abbrev main_cst_5 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_6 : Ref sig .tc := ⟨.hbm, 82, rfl⟩
abbrev main_v36 : Ref sig .tc := ⟨.hbm, 83, rfl⟩
abbrev main_cst_7 : Ref sig .tc := ⟨.hbm, 84, rfl⟩
abbrev main_v37 : Ref sig .tc := ⟨.hbm, 85, rfl⟩
abbrev main_v38 : Ref sig .tc := ⟨.hbm, 86, rfl⟩
abbrev main_c_8 : Ref sig .tc := ⟨.hbm, 87, rfl⟩
abbrev main_call4_cst : Ref sig .tc := ⟨.hbm, 88, rfl⟩
abbrev main_call4_v0 : Ref sig .tc := ⟨.hbm, 89, rfl⟩
abbrev main_call4_v1 : Ref sig .tc := ⟨.hbm, 90, rfl⟩
abbrev main_call4_cst_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_v6 : Ref sig .tc := ⟨.hbm, 96, rfl⟩
abbrev main_call4_v7 : Ref sig .tc := ⟨.hbm, 97, rfl⟩
abbrev main_call4_cst_1 : Ref sig .tc := ⟨.hbm, 98, rfl⟩
abbrev main_call4_v8 : Ref sig .tc := ⟨.hbm, 99, rfl⟩
abbrev main_call4_cst_2 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_cst_3 : Ref sig .tc := ⟨.hbm, 104, rfl⟩
abbrev main_call4_v12 : Ref sig .tc := ⟨.hbm, 105, rfl⟩
abbrev main_call4_cst_4 : Ref sig .tc := ⟨.hbm, 106, rfl⟩
abbrev main_call4_call0_v0 : Ref sig .tc := ⟨.hbm, 107, rfl⟩
abbrev main_call4_call0_v1 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_cst_9 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_call5_cst : Ref sig .tc := ⟨.hbm, 126, rfl⟩
abbrev main_call5_v0 : Ref sig .tc := ⟨.hbm, 127, rfl⟩
abbrev main_v55 : Ref sig .tc := ⟨.hbm, 128, rfl⟩

abbrev nD : Nat := 1
abbrev τ : Topo := Topo.v7x

variable {F : FTy → Type} [FloatOps F]
-- ==== PlainIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S10000x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | .hbm, ⟨59, _⟩ => ⟨S_, .f32⟩
  | .hbm, ⟨60, _⟩ => ⟨S10000x128, .f32⟩
  | .hbm, ⟨61, _⟩ => ⟨S10000x128, .f32⟩
  | .hbm, ⟨62, _⟩ => ⟨S10000x64, .f32⟩
  | .hbm, ⟨63, _⟩ => ⟨S10000x64, .f32⟩
  | .hbm, ⟨64, _⟩ => ⟨S1x64, .f32⟩
  | .hbm, ⟨65, _⟩ => ⟨S10000x64, .f32⟩
  | .hbm, ⟨66, _⟩ => ⟨S10000x64, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .i32⟩
  | .hbm, ⟨73, _⟩ => ⟨S_, .f32⟩
  | .hbm, ⟨74, _⟩ => ⟨S64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S10000x64, .f32⟩
  | .hbm, ⟨80, _⟩ => ⟨S10000x64, .f32⟩
  | .hbm, ⟨81, _⟩ => ⟨S10000x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S1x64, .f32⟩
  | .hbm, ⟨96, _⟩ => ⟨S10000x64, .f32⟩
  | .hbm, ⟨97, _⟩ => ⟨S10000x64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S10000x64, .f32⟩
  | .hbm, ⟨104, _⟩ => ⟨S10000x64, .f32⟩
  | .hbm, ⟨105, _⟩ => ⟨S1x64, .f32⟩
  | .hbm, ⟨106, _⟩ => ⟨S10000x64, .f32⟩
  | .hbm, ⟨107, _⟩ => ⟨S10000x64, .f32⟩
  | .hbm, ⟨108, _⟩ => ⟨S1x64, .f32⟩
  | .hbm, ⟨109, _⟩ => ⟨S10000x64, .f32⟩
  | .hbm, ⟨110, _⟩ => ⟨S10000x64, .f32⟩
  | .hbm, ⟨111, _⟩ => ⟨S_, .f32⟩
  | .hbm, ⟨112, _⟩ => ⟨S10000x64, .f32⟩
  | .hbm, ⟨113, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_call1_cst : Ref sig .tc := ⟨.hbm, 59, rfl⟩
abbrev main_call1_v0 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_2 : Ref sig .tc := ⟨.hbm, 67, rfl⟩
abbrev main_v30 : Ref sig .tc := ⟨.hbm, 68, rfl⟩
abbrev main_cst_3 : Ref sig .tc := ⟨.hbm, 69, rfl⟩
abbrev main_v31 : Ref sig .tc := ⟨.hbm, 70, rfl⟩
abbrev main_v32 : Ref sig .tc := ⟨.hbm, 71, rfl⟩
abbrev main_c_4 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_5 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_call3_cst : Ref sig .tc := ⟨.hbm, 111, rfl⟩
abbrev main_call3_v0 : Ref sig .tc := ⟨.hbm, 112, rfl⟩
abbrev main_v49 : Ref sig .tc := ⟨.hbm, 113, rfl⟩

abbrev nD : Nat := 1
abbrev τ : Topo := Topo.v7x

variable {F : FTy → Type} [FloatOps F]
-- ==== Proof.BodyA.lean ====
/-
  Pass A, one grid point: what the kernel body leaves in its staging and scratch buffers, as a function of what they
  held. At the first point it also fills the `x @ W1` scratch and zeroes the two sums; at the last it also normalises
  the whole first layer and stores the second layer's operand and its column sums.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the whole program: the pipeline library's own. -/
abbrev UU : Type := UR sig nD τ
local notation "𝕄" => MT nD τ sig Unit (Elt F) ℕ UU ℕ

/-- A buffer held whole, at what its memref reads. -/
abbrev own (c : Dev nD) {sp : Space} {S : Shape} {e : EltTy} (M : Memref sig .tc sp S e) (v : S.Idx → Elt F e) : sProp 𝕄 :=
  owns (c : Thread nD τ) M fullShare v

/-- The body's test for the first grid point. -/
def first0 (i : grid0.Coords) : Prop :=
  Scalar.cmpi .ne (Scalar.extui (Scalar.cmpi .eq (BitVec.ofNat 32 (i 0).val) 0#32) : BitVec 32) 0#32 = 1#1
instance (i : grid0.Coords) : Decidable (first0 i) := by unfold first0; infer_instance
/-- The body's test for the last grid point. -/
def last0 (i : grid0.Coords) : Prop := k0_cond2 i = 1#1
instance (i : grid0.Coords) : Decidable (last0 i) := by unfold last0; infer_instance

theorem first0_iff : ∀ i : grid0.Coords, first0 i ↔ (i 0).val = 0 := by decide +kernel
theorem last0_iff : ∀ i : grid0.Coords, last0 i ↔ (i 0).val = 24 := by decide +kernel

section Whole

variable {sg : RefSig} {κ : Kind} {sp : Space} {e : EltTy} {Val : EltTy → Type} {d : Fin 2 → ℕ}

/-- A load of a whole matrix reads the matrix. -/
theorem readAt_all (v : View sg κ sp (⟨2, d⟩ : Shape) e) (f : v.ty.Contents Val) (off : Fin 2 → ℕ) (inb : ∀ a : Fin 2, off a + d a ≤ d a) :
    v.readAt Val (Rect.unit (s := ⟨2, d⟩) off d inb).toLoadRect f = v.read Val f := View.readAt_full v f inb
/-- A load of a whole matrix after a store of the whole matrix reads what was stored. -/
theorem readCov_all [∀ e, Nonempty (Val e)] (v : View sg κ sp (⟨2, d⟩ : Shape) e) (off off' : Fin 2 → ℕ) (inb : ∀ a : Fin 2, off a + d a ≤ d a)
    (inb' : ∀ a : Fin 2, off' a + d a ≤ d a) (w : (Rect.unit (s := ⟨2, d⟩) off' d inb').shape.Idx → Val e) (L : List (View.Piece Val (⟨2, d⟩ : Shape) e)) :
    v.readCov (⟨Rect.unit (s := ⟨2, d⟩) off' d inb', w⟩ :: L) (Rect.unit (s := ⟨2, d⟩) off d inb).toLoadRect = w :=
  View.readCov_full v inb inb' w L
/-- After a store of the whole matrix the buffer reads what was stored. -/
theorem read_writes_all (v : View sg κ sp (⟨2, d⟩ : Shape) e) (f : v.ty.Contents Val) (off : Fin 2 → ℕ) (inb : ∀ a : Fin 2, off a + d a ≤ d a)
    (w : (Rect.unit (s := ⟨2, d⟩) off d inb).shape.Idx → Val e) (L : List (View.Piece Val (⟨2, d⟩ : Shape) e)) :
    v.read Val (v.writes Val f (⟨Rect.unit (s := ⟨2, d⟩) off d inb, w⟩ :: L)) = w := View.read_writes_full v f inb w L

end Whole

/-- The `x @ W1` scratch the point works with. -/
def s1At (i : grid0.Coords) (x : Vec F S10000x128 .f32) (w1 : Vec F S128x128 .f32) (s : Vec F S10000x128 .bf16) : Vec F S10000x128 .bf16 :=
  if first0 i then k0_pay4 x w1 else s
/-- The column sums after the point. -/
def smAt (i : grid0.Coords) (a : Vec F S400x10000 .f32) (s1 : Vec F S10000x128 .bf16) (s : Vec F S1x128 .f32) : Vec F S1x128 .f32 :=
  k0_pay9 a s1 (if first0 i then k0_pay5 else s)
/-- The column sums of squares after the point. -/
def sqAt (i : grid0.Coords) (a : Vec F S400x10000 .f32) (s1 : Vec F S10000x128 .bf16) (s : Vec F S1x128 .f32) : Vec F S1x128 .f32 :=
  k0_pay10 a s1 (if first0 i then k0_pay6 else s)
/-- The first layer's scratch after the point: its 400 rows put there. -/
def h1At (i : grid0.Coords) (a : Vec F S400x10000 .f32) (s1 : Vec F S10000x128 .bf16) (h : Vec F S10000x128 .f32) : Vec F S10000x128 .f32 :=
  VecWindow.put h (k0_off1 i) S400x128.size (k0_pay8 a s1)

set_option maxHeartbeats 1000000 in
/-- The body's run from buffers held at given values. -/
theorem bodyA (c : Dev nD) (i : grid0.Coords)
    (M1 : Memref sig .tc .vmem S10000x128 .f32) (h1 : M1.IsWhole) (M2 : Memref sig .tc .vmem S128x128 .f32) (h2 : M2.IsWhole)
    (M3 : Memref sig .tc .vmem S1x128 .f32) (h3 : M3.IsWhole) (M4 : Memref sig .tc .vmem S1x128 .f32) (h4 : M4.IsWhole)
    (M5 : Memref sig .tc .vmem S128x64 .f32) (h5 : M5.IsWhole) (M6 : Memref sig .tc .vmem S400x10000 .f32) (h6 : M6.IsWhole)
    (M7 : Memref sig .tc .vmem S400x10000 .i8) (h7 : M7.IsWhole) (M8 : Memref sig .tc .vmem S10000x64 .bf16) (h8 : M8.IsWhole)
    (M9 : Memref sig .tc .vmem S1x64 .f32) (h9 : M9.IsWhole) (M10 : Memref sig .tc .vmem S10000x128 .bf16) (h10 : M10.IsWhole)
    (M11 : Memref sig .tc .vmem S10000x128 .f32) (h11 : M11.IsWhole) (M12 : Memref sig .tc .vmem S1x128 .f32) (h12 : M12.IsWhole)
    (M13 : Memref sig .tc .vmem S1x128 .f32) (h13 : M13.IsWhole)
    (x : Vec F S10000x128 .f32) (w1 : Vec F S128x128 .f32) (g b : Vec F S1x128 .f32) (w2 : Vec F S128x64 .f32)
    (a : Vec F S400x10000 .f32) (q : Vec F S400x10000 .i8) (s2 : Vec F S10000x64 .bf16) (cs : Vec F S1x64 .f32)
    (s1 : Vec F S10000x128 .bf16) (h : Vec F S10000x128 .f32) (sm sq : Vec F S1x128 .f32)
    (E : Set ℕ) (Q : PUnit → sProp 𝕄) :
    iprop(own c M1 x ∗ own c M2 w1 ∗ own c M3 g ∗ own c M4 b ∗ own c M5 w2 ∗ own c M6 a ∗ own c M7 q ∗ own c M8 s2
        ∗ own c M9 cs ∗ own c M10 s1 ∗ own c M11 h ∗ own c M12 sm ∗ own c M13 sq
        ∗ (iprop(own c M1 x ∗ own c M2 w1 ∗ own c M3 g ∗ own c M4 b ∗ own c M5 w2 ∗ own c M6 a ∗ own c M7 (k0_pay11 a)
            ∗ own c M8 (if last0 i then k0_pay3 (smAt i a (s1At i x w1 s1) sm) (sqAt i a (s1At i x w1 s1) sq) g b (h1At i a (s1At i x w1 s1) h) w2 else s2)
            ∗ own c M9 (if last0 i then k0_pay2 (smAt i a (s1At i x w1 s1) sm) (sqAt i a (s1At i x w1 s1) sq) g b (h1At i a (s1At i x w1 s1) h) w2 else cs)
            ∗ own c M10 (s1At i x w1 s1) ∗ own c M11 (h1At i a (s1At i x w1 s1) h) ∗ own c M12 (smAt i a (s1At i x w1 s1) sm)
            ∗ own c M13 (sqAt i a (s1At i x w1 s1) sq)) -∗ Q ⟨⟩))
      ⊢ wp frame (wpE (defs₀ (F := F)) Variants.none c none) E
        (cc0__pass_a_kernel i M1 h1 M2 h2 M3 h3 M4 h4 M5 h5 M6 h6 M7 h7 M8 h8 M9 h9 M10 h10 M11 h11 M12 h12 M13 h13) Q := by
  simp only [cc0__pass_a_kernel_eq_skeleton]; unfold cc0__pass_a_kernel_skel
  simp only [k0_part1_eq_skeleton]; unfold k0_part1_skel
  unfold own owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, Hk⟩
  subst e1 e2 e3 e4 e5 e6 e7 e8 e9 e10 e11 e12 e13
  by_cases hc1 : first0 i <;> by_cases hc2 : last0 i
  all_goals
    have hd1 := hc1
    have hd2 := hc2
    unfold first0 at hd1
    unfold last0 at hd2
    sl_exec
    sl_step
    iapply Hk
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; (sl_unfold_words; simp only [smAt, sqAt, s1At, h1At, hc1, hc2, if_true, if_false, readAt_all, readCov_all, read_writes_all, k0_off1])
    isplitl [H8]; · iexists _; isplitr; swap; (· iexact H8); ipureintro; (sl_unfold_words; simp only [smAt, sqAt, s1At, h1At, hc1, hc2, if_true, if_false, readAt_all, readCov_all, read_writes_all, k0_off1]; first | done | exact congrArg (fun h => k0_pay3 _ _ _ _ h _) (View.read_writes_cons_put _ _ _ _ _ rfl))
    isplitl [H9]; · iexists _; isplitr; swap; (· iexact H9); ipureintro; (sl_unfold_words; simp only [smAt, sqAt, s1At, h1At, hc1, hc2, if_true, if_false, readAt_all, readCov_all, read_writes_all, k0_off1]; first | done | exact congrArg (fun h => k0_pay2 _ _ _ _ h _) (View.read_writes_cons_put _ _ _ _ _ rfl))
    isplitl [H10]; · iexists _; isplitr; swap; (· iexact H10); ipureintro; (sl_unfold_words; simp only [smAt, sqAt, s1At, h1At, hc1, hc2, if_true, if_false, readAt_all, readCov_all, read_writes_all, k0_off1])
    isplitl [H11]; · iexists _; isplitr; swap; (· iexact H11); ipureintro; (sl_unfold_words; simp only [smAt, sqAt, s1At, h1At, hc1, hc2, if_true, if_false, readAt_all, readCov_all, read_writes_all, k0_off1]; first | done | exact congrArg (fun h => h) (View.read_writes_cons_put _ _ _ _ _ rfl))
    isplitl [H12]; · iexists _; isplitr; swap; (· iexact H12); ipureintro; (sl_unfold_words; simp only [smAt, sqAt, s1At, h1At, hc1, hc2, if_true, if_false, readAt_all, readCov_all, read_writes_all, k0_off1])
    iexists _; isplitr; swap; (· iexact H13); ipureintro; (sl_unfold_words; simp only [smAt, sqAt, s1At, h1At, hc1, hc2, if_true, if_false, readAt_all, readCov_all, read_writes_all, k0_off1])

end Cert.KernelIdeal.Hand
end
-- ==== Proof.StateA.lean ====
/-
  Pass A, point by point: the value each scratch buffer holds before point `n`, as a closed form of the arrays the
  pass is entered with, and that the body carries the description from each point to the next.
-/
module

public import proofs.«01_k».proof.Proof.BodyA
public import Idealize.ShloMosaic.Lib.Pipeline.ValueKit

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic

variable {F : FTy → Type} [FloatOps F] [Named F]

/-- A valuation of a core's buffers. -/
abbrev Vals (F : FTy → Type) : Type := (c : Dev nD) → (b : Ref sig .tc) → Buf (Elt F) ((c : Thread nD τ).loc b)

variable (V : Vals F) (c : Dev nD)

/-- Point `n` of the grid (read cyclically, so that it is one for every `n`). -/
def ptA (n : ℕ) : Fin cfg0.N := ⟨n % 25, lt_of_lt_of_eq (Nat.mod_lt n (by decide)) N_0.symm⟩

theorem ptA_self (t : Fin cfg0.N) : ptA t.val = t := Fin.ext (Nat.mod_eq_of_lt (t.isLt.trans_eq N_0))

/-- The block of its array that window `w` is handed at point `t`. -/
def blkA (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 400 adjacency rows of point `n`. -/
def adjA (n : ℕ) : Vec F S400x10000 .f32 := blkA V c 5 (ptA n)

theorem idxA_0 : ∀ t : Fin grid0.N, win0_0.index t = ![0, 0] := by decide +kernel
theorem blkA_0 (t : Fin cfg0.N) : blkA V c 0 t = (V c main_arg0 : Vec F S10000x128 .f32) := by
  funext j; blk_ext! [blkA, idxA_0 t]
theorem idxA_1 : ∀ t : Fin grid0.N, win0_1.index t = ![0, 0] := by decide +kernel
theorem blkA_1 (t : Fin cfg0.N) : blkA V c 1 t = (V c main_arg2 : Vec F S128x128 .f32) := by
  funext j; blk_ext! [blkA, idxA_1 t]
theorem idxA_2 : ∀ t : Fin grid0.N, win0_2.index t = ![0, 0] := by decide +kernel
theorem blkA_2 (t : Fin cfg0.N) : blkA V c 2 t = (V c main_call0_v0 : Vec F S1x128 .f32) := by
  funext j; blk_ext! [blkA, idxA_2 t]
theorem idxA_3 : ∀ t : Fin grid0.N, win0_3.index t = ![0, 0] := by decide +kernel
theorem blkA_3 (t : Fin cfg0.N) : blkA V c 3 t = (V c main_call0_v1 : Vec F S1x128 .f32) := by
  funext j; blk_ext! [blkA, idxA_3 t]
theorem idxA_4 : ∀ t : Fin grid0.N, win0_4.index t = ![0, 0] := by decide +kernel
theorem blkA_4 (t : Fin cfg0.N) : blkA V c 4 t = (V c main_arg6 : Vec F S128x64 .f32) := by
  funext j; blk_ext! [blkA, idxA_4 t]
theorem blkA_5 (t : Fin cfg0.N) : blkA V c 5 t = adjA V c t.val := by rw [adjA, ptA_self]

/-- `x @ W1`, as the first point computes it. -/
def S1 : Vec F S10000x128 .bf16 := k0_pay4 (V c main_arg0 : Vec F S10000x128 .f32) (V c main_arg2 : Vec F S128x128 .f32)

/-- The column sums before point `n`. -/
def SUMA : ℕ → Vec F S1x128 .f32
  | 0 => k0_pay5
  | n + 1 => k0_pay9 (adjA V c n) (S1 V c) (SUMA n)

/-- The column sums of squares before point `n`. -/
def SQA : ℕ → Vec F S1x128 .f32
  | 0 => k0_pay6
  | n + 1 => k0_pay10 (adjA V c n) (S1 V c) (SQA n)

/-- The first layer `adj @ (x @ W1)`, row by row from the points that compute it. -/
def H1 : Vec F S10000x128 .f32 := fun y =>
  k0_pay8 (adjA V c ((y 0).val / 400)) (S1 V c)
    (ix2 (⟨(y 0).val % 400, Nat.mod_lt _ (by decide)⟩ : Fin 400) (⟨(y 1).val, (y 1).isLt⟩ : Fin 128) : S400x128.Idx)

/-- What the four scratch buffers hold before point `n`. -/
def GoodA (n : ℕ) (s1 : Vec F S10000x128 .bf16) (h : Vec F S10000x128 .f32) (sm sq : Vec F S1x128 .f32) : Prop :=
  (0 < n → s1 = S1 V c ∧ sm = SUMA V c n ∧ sq = SQA V c n) ∧ ∀ y : S10000x128.Idx, (y 0).val < 400 * n → h y = H1 V c y

theorem coordA : ∀ t : Fin cfg0.N, ((grid0.coords t) 0).val = t.val := by decide +kernel

theorem firstA (t : Fin cfg0.N) : first0 (grid0.coords t) ↔ t.val = 0 := by rw [first0_iff, coordA]
theorem lastA (t : Fin cfg0.N) : last0 (grid0.coords t) ↔ t.val = 24 := by rw [last0_iff, coordA]

theorem goodA_zero (s1 : Vec F S10000x128 .bf16) (h : Vec F S10000x128 .f32) (sm sq : Vec F S1x128 .f32) : GoodA V c 0 s1 h sm sq :=
  ⟨fun h0 => absurd h0 (lt_irrefl 0), fun _ h0 => absurd h0 (by simp)⟩

section Step

variable (t : Fin cfg0.N) {s1 : Vec F S10000x128 .bf16} {h : Vec F S10000x128 .f32} {sm sq : Vec F S1x128 .f32}
  (hg : GoodA V c t.val s1 h sm sq)
include hg

theorem s1At_eq : s1At (grid0.coords t) (V c main_arg0) (V c main_arg2) s1 = S1 V c := by
  unfold s1At
  by_cases h0 : t.val = 0
  · rw [if_pos ((firstA t).2 h0)]; rfl
  · rw [if_neg (fun hf => h0 ((firstA t).1 hf))]; exact (hg.1 (Nat.pos_of_ne_zero h0)).1

theorem smAt_eq : smAt (grid0.coords t) (adjA V c t.val) (S1 V c) sm = SUMA V c (t.val + 1) := by
  unfold smAt
  rw [SUMA]
  by_cases h0 : t.val = 0
  · rw [if_pos ((firstA t).2 h0), h0]; rfl
  · rw [if_neg (fun hf => h0 ((firstA t).1 hf)), (hg.1 (Nat.pos_of_ne_zero h0)).2.1]

theorem sqAt_eq : sqAt (grid0.coords t) (adjA V c t.val) (S1 V c) sq = SQA V c (t.val + 1) := by
  unfold sqAt
  rw [SQA]
  by_cases h0 : t.val = 0
  · rw [if_pos ((firstA t).2 h0), h0]; rfl
  · rw [if_neg (fun hf => h0 ((firstA t).1 hf)), (hg.1 (Nat.pos_of_ne_zero h0)).2.2]

theorem h1At_eq (y : S10000x128.Idx) (hy : (y 0).val < 400 * (t.val + 1)) :
    h1At (grid0.coords t) (adjA V c t.val) (S1 V c) h y = H1 V c y := by
  have e : k0_off1 (grid0.coords t) = ![400 * t.val, 0] := by rw [k0_off1_eq, coordA]
  unfold h1At VecWindow.put
  have y1 : (y 1).val < 128 := (y 1).isLt
  by_cases hlt : (y 0).val < 400 * t.val
  · rw [dif_neg (fun hc => by
      have h0 := (hc 0).1
      rw [e] at h0
      change 400 * t.val ≤ _ at h0
      omega)]
    exact hg.2 y hlt
  · have hc : ∀ a, k0_off1 (grid0.coords t) a ≤ (y a).val ∧ (y a).val < k0_off1 (grid0.coords t) a + S400x128.size a := fun a => by
      rw [e]
      fin_cases a
      · change 400 * t.val ≤ (y 0).val ∧ (y 0).val < 400 * t.val + 400
        omega
      · change 0 ≤ (y 1).val ∧ (y 1).val < 0 + 128
        omega
    rw [dif_pos hc]
    unfold H1
    have hq : (y 0).val / 400 = t.val := by omega
    have hr : (y 0).val % 400 = (y 0).val - 400 * t.val := by omega
    rw [hq]
    refine congrArg (k0_pay8 (adjA V c t.val) (S1 V c)) ?_
    funext a
    apply Fin.ext
    rw [Rect.unitLocal_val, e]
    fin_cases a
    · exact hr.symm
    · rfl

/-- The description is carried over the point. -/
theorem goodA_step : GoodA V c (t.val + 1) (S1 V c) (h1At (grid0.coords t) (adjA V c t.val) (S1 V c) h) (SUMA V c (t.val + 1)) (SQA V c (t.val + 1)) :=
  ⟨fun _ => ⟨rfl, rfl, rfl⟩, fun y hy => h1At_eq V c t hg y hy⟩

end Step

/-- After the last point the first layer is complete. -/
theorem goodA_full {s1 : Vec F S10000x128 .bf16} {h : Vec F S10000x128 .f32} {sm sq : Vec F S1x128 .f32} (hg : GoodA V c 25 s1 h sm sq) : h = H1 V c := by
  funext y
  exact hg.2 y (lt_of_lt_of_eq (y 0).isLt rfl)

end Cert.KernelIdeal.Hand
end
-- ==== Proof.RegA.lean ====
/-
  Pass A as a pipeline region: its proof data from any entry contents, and the library's body obligation.
-/
module

public import proofs.«01_k».proof.Proof.StateA

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ UU ℕ

/-- A buffer of the core held whole at something. -/
abbrev anyAt (c : Dev nD) (b : Ref sig .tc) : sProp 𝕄 := iprop(∃ f : Buf (Elt F) ((c : Thread nD τ).loc b), ((c : Thread nD τ).loc b) ↦{fullShare} f)

/-- The scoped buffers of the other pass. -/
def restA (c : Dev nD) : sProp 𝕄 :=
  iprop(anyAt c cc1_stg0_0 ∗ anyAt c cc1_stg1_0 ∗ anyAt c cc1_stg2_0 ∗ anyAt c cc1_stg3_0 ∗ anyAt c cc1_stg4_0 ∗ anyAt c cc1_stg4_1
    ∗ anyAt c cc1_stg5_0 ∗ anyAt c cc1_scratch0 ∗ anyAt c cc1_scratch1 ∗ anyAt c cc1_scratch2)

variable (V : Vals F)

/-- The invariant before point `n`: the four scratch buffers at what `GoodA` says, the other pass's buffers at anything. -/
def invA (c : Dev nD) (n : ℕ) : sProp 𝕄 :=
  iprop(∃ s1 : Vec F S10000x128 .bf16, ∃ h : Vec F S10000x128 .f32, ∃ sm : Vec F S1x128 .f32, ∃ sq : Vec F S1x128 .f32,
    ⌜GoodA V c n s1 h sm sq⌝ ∗ own c (Memref.whole cc0_scratch0) s1 ∗ own c (Memref.whole cc0_scratch1) h
      ∗ own c (Memref.whole cc0_scratch2) sm ∗ own c (Memref.whole cc0_scratch3) sq ∗ restA c)

/-- What the last point stores of the second layer's left factor, `relu(bn(h1)) @ W2`. -/
def S2 (c : Dev nD) : Vec F S10000x64 .bf16 :=
  k0_pay3 (SUMA V c 25) (SQA V c 25) (V c main_call0_v0) (V c main_call0_v1) (H1 V c) (V c main_arg6)
/-- What the last point stores of its column sums. -/
def CS (c : Dev nD) : Vec F S1x64 .f32 :=
  k0_pay2 (SUMA V c 25) (SQA V c 25) (V c main_call0_v0) (V c main_call0_v1) (H1 V c) (V c main_arg6)

/-- The proof data of pass A entered at `V`. -/
def datA (c : Dev nD) : Dat τ (Elt F) Unit ℕ UU ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => blkA V c 5 t
    | ⟨6, _⟩ => k0_pay11 (adjA V c t.val)
    | ⟨7, _⟩ => S2 V c
    | ⟨8, _⟩ => CS V c
  Φ n := invA V c n.val
  q _ := fullShare
  owed _ := 0

theorem beforeA_0 (c : Dev nD) (t : Fin cfg0.N) (d) : (datA V c).before 0 t d = (V c main_arg0 : Vec F S10000x128 .f32) :=
  ((datA V c).before_in_eq_fetched 0 rfl (fun _ => rfl) (fun _ _ _ => rfl) (fun _ => rfl) t d).trans (blkA_0 V c t)
theorem beforeA_1 (c : Dev nD) (t : Fin cfg0.N) (d) : (datA V c).before 1 t d = (V c main_arg2 : Vec F S128x128 .f32) :=
  ((datA V c).before_in_eq_fetched 1 rfl (fun _ => rfl) (fun _ _ _ => rfl) (fun _ => rfl) t d).trans (blkA_1 V c t)
theorem beforeA_2 (c : Dev nD) (t : Fin cfg0.N) (d) : (datA V c).before 2 t d = (V c main_call0_v0 : Vec F S1x128 .f32) :=
  ((datA V c).before_in_eq_fetched 2 rfl (fun _ => rfl) (fun _ _ _ => rfl) (fun _ => rfl) t d).trans (blkA_2 V c t)
theorem beforeA_3 (c : Dev nD) (t : Fin cfg0.N) (d) : (datA V c).before 3 t d = (V c main_call0_v1 : Vec F S1x128 .f32) :=
  ((datA V c).before_in_eq_fetched 3 rfl (fun _ => rfl) (fun _ _ _ => rfl) (fun _ => rfl) t d).trans (blkA_3 V c t)
theorem beforeA_4 (c : Dev nD) (t : Fin cfg0.N) (d) : (datA V c).before 4 t d = (V c main_arg6 : Vec F S128x64 .f32) :=
  ((datA V c).before_in_eq_fetched 4 rfl (fun _ => rfl) (fun _ _ _ => rfl) (fun _ => rfl) t d).trans (blkA_4 V c t)
theorem beforeA_5 (c : Dev nD) (t : Fin cfg0.N) (d) : (datA V c).before 5 t d = adjA V c t.val :=
  ((datA V c).before_in_eq_fetched 5 rfl (fun _ => rfl) (fun _ _ _ => rfl) (fun _ => rfl) t d).trans (blkA_5 V c t)

theorem afterA_0 (c : Dev nD) (t : Fin cfg0.N) : (datA V c).after 0 t = (V c main_arg0 : Vec F S10000x128 .f32) := by dsimp only [datA]; exact blkA_0 V c t
theorem afterA_1 (c : Dev nD) (t : Fin cfg0.N) : (datA V c).after 1 t = (V c main_arg2 : Vec F S128x128 .f32) := by dsimp only [datA]; exact blkA_1 V c t
theorem afterA_2 (c : Dev nD) (t : Fin cfg0.N) : (datA V c).after 2 t = (V c main_call0_v0 : Vec F S1x128 .f32) := by dsimp only [datA]; exact blkA_2 V c t
theorem afterA_3 (c : Dev nD) (t : Fin cfg0.N) : (datA V c).after 3 t = (V c main_call0_v1 : Vec F S1x128 .f32) := by dsimp only [datA]; exact blkA_3 V c t
theorem afterA_4 (c : Dev nD) (t : Fin cfg0.N) : (datA V c).after 4 t = (V c main_arg6 : Vec F S128x64 .f32) := by dsimp only [datA]; exact blkA_4 V c t
theorem afterA_5 (c : Dev nD) (t : Fin cfg0.N) : (datA V c).after 5 t = adjA V c t.val := by dsimp only [datA]; exact blkA_5 V c t
theorem afterA_6 (c : Dev nD) (t : Fin cfg0.N) : (datA V c).after 6 t = k0_pay11 (adjA V c t.val) := by dsimp only [datA]
theorem afterA_7 (c : Dev nD) (t : Fin cfg0.N) : (datA V c).after 7 t = S2 V c := by dsimp only [datA]
theorem afterA_8 (c : Dev nD) (t : Fin cfg0.N) : (datA V c).after 8 t = CS V c := by dsimp only [datA]

/-- The two results of the last point are left alone at every other point. -/
theorem idleA_7 : ∀ t : Fin cfg0.N, idle0 7 (grid0.coords t) = !decide (t.val = 24) := by decide +kernel
theorem noFlushA_7 (t : Fin cfg0.N) (h : t.val ≠ 24) : (win0 7).flush t = false :=
  Bool.eq_false_iff.2 fun hf => h (by have := (flush0_7 t).1 hf; have := t.isLt.trans_eq N_0; omega)
theorem noFlushA_8 (t : Fin cfg0.N) (h : t.val ≠ 24) : (win0 8).flush t = false :=
  Bool.eq_false_iff.2 fun hf => h (by have := (flush0_8 t).1 hf; have := t.isLt.trans_eq N_0; omega)

set_option maxHeartbeats 1000000 in
/-- The library's body obligation at every point. -/
theorem bodyA_obligation (c : Dev nD) : BodyObligation (datA V c) (defs₀ (F := F)) Variants.none () Set.univ := fun t => by
  rw [bigSep_W0, bigSep_W0]
  rw [show (datA V c).Φ t.castSucc = invA V c t.val from rfl, show (datA V c).Φ t.succ = invA V c (t.val + 1) from rfl,
    show (datA V c).owesAt () t.succ = (datA V c).owesAt () t.castSucc from rfl]
  simp only [beforeA_0, beforeA_1, beforeA_2, beforeA_3, beforeA_4, beforeA_5, afterA_0, afterA_1, afterA_2, afterA_3, afterA_4,
    afterA_5, afterA_6, afterA_7, afterA_8]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold invA
  icases HΦ with ⟨%s1, %h, %sm, %sq, %hg, Hs, Hh, Hm, Hq, HR⟩
  iapply (bodyA c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (V c main_arg0) (V c main_arg2) (V c main_call0_v0) (V c main_call0_v1) (V c main_arg6) (adjA V c t.val)
    ((datA V c).before 6 t d6) ((datA V c).before 7 t d7) ((datA V c).before 8 t d8) s1 h sm sq Set.univ _)
  rw [s1At_eq V c t hg, smAt_eq V c t hg, sqAt_eq V c t hg]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs]; · iexact Hs
  isplitl [Hh]; · iexact Hh
  isplitl [Hm]; · iexact Hm
  isplitl [Hq]; · iexact Hq
  iintro ⟨H0, H1, H2, H3, H4, H5, H6, H7, H8, Hs, Hh, Hm, Hq⟩
  isplitl [Hs Hh Hm Hq HR]
  · iexists _; iexists _; iexists _; iexists _
    isplitr; · ipureintro; exact goodA_step V c t hg
    isplitl [Hs]; · iexact Hs
    isplitl [Hh]; · iexact Hh
    isplitl [Hm]; · iexact Hm
    isplitl [Hq]; · iexact Hq
    iexact HR
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h24 : t.val = 24
  · have hl := (lastA t).2 h24
    have hh : h1At (grid0.coords t) (adjA V c t.val) (S1 V c) h = H1 V c :=
      goodA_full V c (by have := goodA_step V c t hg; rwa [h24] at this ⊢)
    rw [if_pos hl, if_pos hl, hh, h24]
    rw [idleA_7 t]
    simp only [h24, decide_true, Bool.not_true]
    isplitl [H7]; · iexact H7
    iexact H8
  · have hl : ¬ last0 (grid0.coords t) := fun hl => h24 ((lastA t).1 hl)
    rw [if_neg hl, if_neg hl]
    rw [idleA_7 t]
    simp only [h24, decide_false, Bool.not_false, noFlushA_7 t h24, noFlushA_8 t h24]
    isplitl [H7]; · iexists _; iexact H7
    iexists _; iexact H8

end Cert.KernelIdeal.Hand
end
-- ==== Proof.BodyB.lean ====
/-
  Pass B, one grid point: what the kernel body leaves in its staging and scratch buffers, as a function of what they
  held. At the first point it also zeroes the two sums; at the last it also stores the normalised second layer.
-/
module

public import proofs.«01_k».proof.Proof.BodyA

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- The body's test for the first grid point. -/
def first1 (i : grid1.Coords) : Prop :=
  Scalar.cmpi .ne (Scalar.extui (Scalar.cmpi .eq (BitVec.ofNat 32 (i 0).val) 0#32) : BitVec 32) 0#32 = 1#1
instance (i : grid1.Coords) : Decidable (first1 i) := by unfold first1; infer_instance
/-- The body's test for the last grid point. -/
def last1 (i : grid1.Coords) : Prop := k1_cond2 i = 1#1
instance (i : grid1.Coords) : Decidable (last1 i) := by unfold last1; infer_instance

theorem first1_iff : ∀ i : grid1.Coords, first1 i ↔ (i 0).val = 0 := by decide +kernel
theorem last1_iff : ∀ i : grid1.Coords, last1 i ↔ (i 0).val = 9 := by decide +kernel

/-- The column sums after the point. -/
def smBt (i : grid1.Coords) (q : Vec F S1000x10000 .i8) (s2 : Vec F S10000x64 .bf16) (cs s : Vec F S1x64 .f32) : Vec F S1x64 .f32 :=
  k1_pay7 q s2 cs (if first1 i then k1_pay3 else s)
/-- The column sums of squares after the point. -/
def sqBt (i : grid1.Coords) (q : Vec F S1000x10000 .i8) (s2 : Vec F S10000x64 .bf16) (cs s : Vec F S1x64 .f32) : Vec F S1x64 .f32 :=
  k1_pay1 (k1_pay8 q s2 cs (if first1 i then k1_pay4 else s))
/-- The second layer's scratch after the point: its 1000 rows put there. -/
def h2Bt (i : grid1.Coords) (q : Vec F S1000x10000 .i8) (s2 : Vec F S10000x64 .bf16) (cs : Vec F S1x64 .f32) (h : Vec F S10000x64 .f32) : Vec F S10000x64 .f32 :=
  VecWindow.put h (k1_off1 i) S1000x64.size (k1_pay6 q s2 cs)

set_option maxHeartbeats 1000000 in
/-- The body's run from buffers held at given values. -/
theorem bodyB (c : Dev nD) (i : grid1.Coords)
    (M1 : Memref sig .tc .vmem S1x64 .f32) (h1 : M1.IsWhole)
    (M2 : Memref sig .tc .vmem S1x64 .f32) (h2 : M2.IsWhole)
    (M3 : Memref sig .tc .vmem S10000x64 .bf16) (h3 : M3.IsWhole)
    (M4 : Memref sig .tc .vmem S1x64 .f32) (h4 : M4.IsWhole)
    (M5 : Memref sig .tc .vmem S1000x10000 .i8) (h5 : M5.IsWhole)
    (M6 : Memref sig .tc .vmem S10000x64 .f32) (h6 : M6.IsWhole)
    (M7 : Memref sig .tc .vmem S10000x64 .f32) (h7 : M7.IsWhole)
    (M8 : Memref sig .tc .vmem S1x64 .f32) (h8 : M8.IsWhole)
    (M9 : Memref sig .tc .vmem S1x64 .f32) (h9 : M9.IsWhole)
    (g : Vec F S1x64 .f32) (b : Vec F S1x64 .f32) (s2 : Vec F S10000x64 .bf16) (cs : Vec F S1x64 .f32) (q : Vec F S1000x10000 .i8) (o : Vec F S10000x64 .f32) (h : Vec F S10000x64 .f32) (sm : Vec F S1x64 .f32) (sq : Vec F S1x64 .f32)
    (E : Set ℕ) (Q : PUnit → sProp 𝕄) :
    iprop(own c M1 g ∗ own c M2 b ∗ own c M3 s2 ∗ own c M4 cs ∗ own c M5 q ∗ own c M6 o ∗ own c M7 h ∗ own c M8 sm ∗ own c M9 sq
        ∗ (iprop(own c M1 g ∗ own c M2 b ∗ own c M3 s2 ∗ own c M4 cs ∗ own c M5 q ∗ own c M6 (if last1 i then k1_pay2 (smBt i q s2 cs sm) (sqBt i q s2 cs sq) g b (h2Bt i q s2 cs h) else o) ∗ own c M7 (h2Bt i q s2 cs h) ∗ own c M8 (smBt i q s2 cs sm) ∗ own c M9 (sqBt i q s2 cs sq)) -∗ Q ⟨⟩))
      ⊢ wp frame (wpE (defs₀ (F := F)) Variants.none c none) E (cc1__pass_b_kernel i M1 h1 M2 h2 M3 h3 M4 h4 M5 h5 M6 h6 M7 h7 M8 h8 M9 h9) Q := by
  simp only [cc1__pass_b_kernel_eq_skeleton]; unfold cc1__pass_b_kernel_skel
  simp only [k1_part1_eq_skeleton]; unfold k1_part1_skel
  unfold own owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  subst e1 e2 e3 e4 e5 e6 e7 e8 e9
  by_cases hc1 : first1 i <;> by_cases hc2 : last1 i
  all_goals
    have hd1 := hc1
    have hd2 := hc2
    unfold first1 at hd1
    unfold last1 at hd2
    sl_exec
    sl_step
    iapply Hk
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; (sl_unfold_words; simp only [hc1, hc2, if_true, if_false, smBt, sqBt, h2Bt, readAt_all, readCov_all, read_writes_all, k1_off1]; first | done | exact congrArg (fun h => k1_pay2 _ _ _ _ h) (View.read_writes_cons_put _ _ _ _ _ rfl))
    isplitl [H7]; · iexists _; isplitr; swap; (· iexact H7); ipureintro; (sl_unfold_words; simp only [hc1, hc2, if_true, if_false, smBt, sqBt, h2Bt, readAt_all, readCov_all, read_writes_all, k1_off1]; first | done | exact congrArg (fun h => h) (View.read_writes_cons_put _ _ _ _ _ rfl))
    isplitl [H8]; · iexists _; isplitr; swap; (· iexact H8); ipureintro; (sl_unfold_words; simp only [hc1, hc2, if_true, if_false, smBt, sqBt, h2Bt, readAt_all, readCov_all, read_writes_all, k1_off1])
    iexists _; isplitr; swap; (· iexact H9); ipureintro; (sl_unfold_words; simp only [hc1, hc2, if_true, if_false, smBt, sqBt, h2Bt, readAt_all, readCov_all, read_writes_all, k1_off1])

end Cert.KernelIdeal.Hand
end
-- ==== Proof.StateB.lean ====
/-
  Pass B, point by point: the value each scratch buffer holds before point `n`, as a closed form of the arrays the
  pass is entered with, and that the body carries the description from each point to the next.
-/
module

public import proofs.«01_k».proof.Proof.RegA
public import proofs.«01_k».proof.Proof.BodyB
public import Idealize.ShloMosaic.Lib.Pipeline.ValueKit

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic

variable {F : FTy → Type} [FloatOps F] [Named F]

variable (V : Vals F) (c : Dev nD)

/-- Point `n` of the grid (read cyclically, so that it is one for every `n`). -/
def ptB (n : ℕ) : Fin cfg1.N := ⟨n % 10, lt_of_lt_of_eq (Nat.mod_lt n (by decide)) N_1.symm⟩

theorem ptB_self (t : Fin cfg1.N) : ptB t.val = t := Fin.ext (Nat.mod_eq_of_lt (t.isLt.trans_eq N_1))

/-- The block of its array that window `w` is handed at point `t`. -/
def blkB (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 1000 rows of the quantised adjacency of point `n`. -/
def qB (n : ℕ) : Vec F S1000x10000 .i8 := blkB V c 4 (ptB n)

theorem idxB_0 : ∀ t : Fin grid1.N, win1_0.index t = ![0, 0] := by decide +kernel
theorem blkB_0 (t : Fin cfg1.N) : blkB V c 0 t = (V c main_call0_v3 : Vec F S1x64 .f32) := by
  funext j; blk_ext! [blkB, idxB_0 t]
theorem idxB_1 : ∀ t : Fin grid1.N, win1_1.index t = ![0, 0] := by decide +kernel
theorem blkB_1 (t : Fin cfg1.N) : blkB V c 1 t = (V c main_call0_v4 : Vec F S1x64 .f32) := by
  funext j; blk_ext! [blkB, idxB_1 t]
theorem idxB_2 : ∀ t : Fin grid1.N, win1_2.index t = ![0, 0] := by decide +kernel
theorem blkB_2 (t : Fin cfg1.N) : blkB V c 2 t = (V c main_call0_v2_1 : Vec F S10000x64 .bf16) := by
  funext j; blk_ext! [blkB, idxB_2 t]
theorem idxB_3 : ∀ t : Fin grid1.N, win1_3.index t = ![0, 0] := by decide +kernel
theorem blkB_3 (t : Fin cfg1.N) : blkB V c 3 t = (V c main_call0_v2_2 : Vec F S1x64 .f32) := by
  funext j; blk_ext! [blkB, idxB_3 t]
theorem blkB_4 (t : Fin cfg1.N) : blkB V c 4 t = qB V c t.val := by rw [qB, ptB_self]

/-- The column sums before point `n`. -/
def SUMB : ℕ → Vec F S1x64 .f32
  | 0 => k1_pay3
  | n + 1 => k1_pay7 (qB V c n) (V c main_call0_v2_1) (V c main_call0_v2_2) (SUMB n)

/-- The column sums of squares before point `n`. -/
def SQB : ℕ → Vec F S1x64 .f32
  | 0 => k1_pay4
  | n + 1 => k1_pay1 (k1_pay8 (qB V c n) (V c main_call0_v2_1) (V c main_call0_v2_2) (SQB n))

/-- The second layer, row by row from the points that compute it. -/
def H2 : Vec F S10000x64 .f32 := fun y =>
  k1_pay6 (qB V c ((y 0).val / 1000)) (V c main_call0_v2_1) (V c main_call0_v2_2)
    (ix2 (⟨(y 0).val % 1000, Nat.mod_lt _ (by decide)⟩ : Fin 1000) (⟨(y 1).val, (y 1).isLt⟩ : Fin 64) : S1000x64.Idx)

/-- What the three scratch buffers hold before point `n`. -/
def GoodB (n : ℕ) (h : Vec F S10000x64 .f32) (sm sq : Vec F S1x64 .f32) : Prop :=
  (0 < n → sm = SUMB V c n ∧ sq = SQB V c n) ∧ ∀ y : S10000x64.Idx, (y 0).val < 1000 * n → h y = H2 V c y

theorem coordB : ∀ t : Fin cfg1.N, ((grid1.coords t) 0).val = t.val := by decide +kernel

theorem firstB (t : Fin cfg1.N) : first1 (grid1.coords t) ↔ t.val = 0 := by rw [first1_iff, coordB]
theorem lastB (t : Fin cfg1.N) : last1 (grid1.coords t) ↔ t.val = 9 := by rw [last1_iff, coordB]

theorem goodB_zero (h : Vec F S10000x64 .f32) (sm sq : Vec F S1x64 .f32) : GoodB V c 0 h sm sq :=
  ⟨fun h0 => absurd h0 (lt_irrefl 0), fun _ h0 => absurd h0 (by simp)⟩

section Step

variable (t : Fin cfg1.N) {h : Vec F S10000x64 .f32} {sm sq : Vec F S1x64 .f32}
  (hg : GoodB V c t.val h sm sq)
include hg

theorem smBt_eq : smBt (grid1.coords t) (qB V c t.val) (V c main_call0_v2_1) (V c main_call0_v2_2) sm = SUMB V c (t.val + 1) := by
  unfold smBt
  rw [SUMB]
  by_cases h0 : t.val = 0
  · rw [if_pos ((firstB t).2 h0), h0]; rfl
  · rw [if_neg (fun hf => h0 ((firstB t).1 hf)), (hg.1 (Nat.pos_of_ne_zero h0)).1]

theorem sqBt_eq : sqBt (grid1.coords t) (qB V c t.val) (V c main_call0_v2_1) (V c main_call0_v2_2) sq = SQB V c (t.val + 1) := by
  unfold sqBt
  rw [SQB]
  by_cases h0 : t.val = 0
  · rw [if_pos ((firstB t).2 h0), h0]; rfl
  · rw [if_neg (fun hf => h0 ((firstB t).1 hf)), (hg.1 (Nat.pos_of_ne_zero h0)).2]

theorem h2Bt_eq (y : S10000x64.Idx) (hy : (y 0).val < 1000 * (t.val + 1)) :
    h2Bt (grid1.coords t) (qB V c t.val) (V c main_call0_v2_1) (V c main_call0_v2_2) h y = H2 V c y := by
  have e : k1_off1 (grid1.coords t) = ![1000 * t.val, 0] := by rw [k1_off1_eq, coordB]
  unfold h2Bt VecWindow.put
  have y1 : (y 1).val < 64 := (y 1).isLt
  by_cases hlt : (y 0).val < 1000 * t.val
  · rw [dif_neg (fun hc => by
      have h0 := (hc 0).1
      rw [e] at h0
      change 1000 * t.val ≤ _ at h0
      omega)]
    exact hg.2 y hlt
  · have hc : ∀ a, k1_off1 (grid1.coords t) a ≤ (y a).val ∧ (y a).val < k1_off1 (grid1.coords t) a + S1000x64.size a := fun a => by
      rw [e]
      fin_cases a
      · change 1000 * t.val ≤ (y 0).val ∧ (y 0).val < 1000 * t.val + 1000
        omega
      · change 0 ≤ (y 1).val ∧ (y 1).val < 0 + 64
        omega
    rw [dif_pos hc]
    unfold H2
    have hq : (y 0).val / 1000 = t.val := by omega
    have hr : (y 0).val % 1000 = (y 0).val - 1000 * t.val := by omega
    rw [hq]
    refine congrArg (k1_pay6 (qB V c t.val) (V c main_call0_v2_1) (V c main_call0_v2_2)) ?_
    funext a
    apply Fin.ext
    rw [Rect.unitLocal_val, e]
    fin_cases a
    · exact hr.symm
    · rfl

/-- The description is carried over the point. -/
theorem goodB_step : GoodB V c (t.val + 1) (h2Bt (grid1.coords t) (qB V c t.val) (V c main_call0_v2_1) (V c main_call0_v2_2) h) (SUMB V c (t.val + 1)) (SQB V c (t.val + 1)) :=
  ⟨fun _ => ⟨rfl, rfl⟩, fun y hy => h2Bt_eq V c t hg y hy⟩

end Step

/-- After the last point the second layer is complete. -/
theorem goodB_full {h : Vec F S10000x64 .f32} {sm sq : Vec F S1x64 .f32} (hg : GoodB V c 10 h sm sq) : h = H2 V c := by
  funext y
  exact hg.2 y (lt_of_lt_of_eq (y 0).isLt rfl)

end Cert.KernelIdeal.Hand
end
-- ==== Proof.RegB.lean ====
/-
  Pass B as a pipeline region: its proof data from any entry contents, and the library's body obligation.
-/
module

public import proofs.«01_k».proof.Proof.StateB

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ UU ℕ

/-- The scoped buffers of the other pass. -/
def restB (c : Dev nD) : sProp 𝕄 :=
  iprop(anyAt c cc0_stg0_0 ∗ anyAt c cc0_stg1_0 ∗ anyAt c cc0_stg2_0 ∗ anyAt c cc0_stg3_0 ∗ anyAt c cc0_stg4_0 ∗ anyAt c cc0_stg5_0 ∗ anyAt c cc0_stg5_1 ∗ anyAt c cc0_stg6_0
    ∗ anyAt c cc0_stg6_1 ∗ anyAt c cc0_stg7_0 ∗ anyAt c cc0_stg8_0 ∗ anyAt c cc0_scratch0 ∗ anyAt c cc0_scratch1 ∗ anyAt c cc0_scratch2 ∗ anyAt c cc0_scratch3)

variable (V : Vals F)

/-- The invariant before point `n`: the three scratch buffers at what `GoodB` says, the other pass's buffers at anything. -/
def invB (c : Dev nD) (n : ℕ) : sProp 𝕄 :=
  iprop(∃ h : Vec F S10000x64 .f32, ∃ sm : Vec F S1x64 .f32, ∃ sq : Vec F S1x64 .f32,
    ⌜GoodB V c n h sm sq⌝ ∗ own c (Memref.whole cc1_scratch0) h ∗ own c (Memref.whole cc1_scratch1) sm
      ∗ own c (Memref.whole cc1_scratch2) sq ∗ restB c)

/-- The result, as the last point stores it. -/
def OUT (c : Dev nD) : Vec F S10000x64 .f32 :=
  k1_pay2 (SUMB V c 10) (SQB V c 10) (V c main_call0_v3) (V c main_call0_v4) (H2 V c)

/-- The proof data of pass B entered at `V`. -/
def datB (c : Dev nD) : Dat τ (Elt F) Unit ℕ UU ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => OUT V c
  Φ n := invB V c n.val
  q _ := fullShare
  owed _ := 0

theorem beforeB_0 (c : Dev nD) (t : Fin cfg1.N) (d) : (datB V c).before 0 t d = (V c main_call0_v3 : Vec F S1x64 .f32) :=
  ((datB V c).before_in_eq_fetched 0 rfl (fun _ => rfl) (fun _ _ _ => rfl) (fun _ => rfl) t d).trans (blkB_0 V c t)
theorem afterB_0 (c : Dev nD) (t : Fin cfg1.N) : (datB V c).after 0 t = (V c main_call0_v3 : Vec F S1x64 .f32) := by dsimp only [datB]; exact blkB_0 V c t
theorem beforeB_1 (c : Dev nD) (t : Fin cfg1.N) (d) : (datB V c).before 1 t d = (V c main_call0_v4 : Vec F S1x64 .f32) :=
  ((datB V c).before_in_eq_fetched 1 rfl (fun _ => rfl) (fun _ _ _ => rfl) (fun _ => rfl) t d).trans (blkB_1 V c t)
theorem afterB_1 (c : Dev nD) (t : Fin cfg1.N) : (datB V c).after 1 t = (V c main_call0_v4 : Vec F S1x64 .f32) := by dsimp only [datB]; exact blkB_1 V c t
theorem beforeB_2 (c : Dev nD) (t : Fin cfg1.N) (d) : (datB V c).before 2 t d = (V c main_call0_v2_1 : Vec F S10000x64 .bf16) :=
  ((datB V c).before_in_eq_fetched 2 rfl (fun _ => rfl) (fun _ _ _ => rfl) (fun _ => rfl) t d).trans (blkB_2 V c t)
theorem afterB_2 (c : Dev nD) (t : Fin cfg1.N) : (datB V c).after 2 t = (V c main_call0_v2_1 : Vec F S10000x64 .bf16) := by dsimp only [datB]; exact blkB_2 V c t
theorem beforeB_3 (c : Dev nD) (t : Fin cfg1.N) (d) : (datB V c).before 3 t d = (V c main_call0_v2_2 : Vec F S1x64 .f32) :=
  ((datB V c).before_in_eq_fetched 3 rfl (fun _ => rfl) (fun _ _ _ => rfl) (fun _ => rfl) t d).trans (blkB_3 V c t)
theorem afterB_3 (c : Dev nD) (t : Fin cfg1.N) : (datB V c).after 3 t = (V c main_call0_v2_2 : Vec F S1x64 .f32) := by dsimp only [datB]; exact blkB_3 V c t
theorem beforeB_4 (c : Dev nD) (t : Fin cfg1.N) (d) : (datB V c).before 4 t d = qB V c t.val :=
  ((datB V c).before_in_eq_fetched 4 rfl (fun _ => rfl) (fun _ _ _ => rfl) (fun _ => rfl) t d).trans (blkB_4 V c t)
theorem afterB_4 (c : Dev nD) (t : Fin cfg1.N) : (datB V c).after 4 t = qB V c t.val := by dsimp only [datB]; exact blkB_4 V c t
theorem afterB_5 (c : Dev nD) (t : Fin cfg1.N) : (datB V c).after 5 t = OUT V c := by dsimp only [datB]

/-- The result's buffer is left alone at every point but the last. -/
theorem idleB_5 : ∀ t : Fin cfg1.N, idle1 5 (grid1.coords t) = !decide (t.val = 9) := by decide +kernel
theorem noFlushB_5 (t : Fin cfg1.N) (h : t.val ≠ 9) : (win1 5).flush t = false :=
  Bool.eq_false_iff.2 fun hf => h (by have := (flush1_5 t).1 hf; have := t.isLt.trans_eq N_1; omega)

set_option maxHeartbeats 1000000 in
/-- The library's body obligation at every point. -/
theorem bodyB_obligation (c : Dev nD) : BodyObligation (datB V c) (defs₀ (F := F)) Variants.none () Set.univ := fun t => by
  rw [bigSep_W1, bigSep_W1]
  rw [show (datB V c).Φ t.castSucc = invB V c t.val from rfl, show (datB V c).Φ t.succ = invB V c (t.val + 1) from rfl,
    show (datB V c).owesAt () t.succ = (datB V c).owesAt () t.castSucc from rfl]
  simp only [beforeB_0, beforeB_1, beforeB_2, beforeB_3, beforeB_4, afterB_0, afterB_1, afterB_2, afterB_3, afterB_4, afterB_5]
  iintro ⟨HΦ, Howes, ⟨%d0, H0⟩, ⟨%d1, H1⟩, ⟨%d2, H2⟩, ⟨%d3, H3⟩, ⟨%d4, H4⟩, ⟨%d5, H5⟩⟩
  unfold invB
  icases HΦ with ⟨%h, %sm, %sq, %hg, Hh, Hm, Hq, HR⟩
  iapply (bodyB c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (Memref.whole cc1_scratch0) (Memref.isWhole_whole _) (Memref.whole cc1_scratch1) (Memref.isWhole_whole _)
    (Memref.whole cc1_scratch2) (Memref.isWhole_whole _)
    (V c main_call0_v3) (V c main_call0_v4) (V c main_call0_v2_1) (V c main_call0_v2_2) (qB V c t.val)
    ((datB V c).before 5 t d5) h sm sq Set.univ _)
  rw [smBt_eq V c t hg, sqBt_eq V c t hg]
  isplitl [H0]; · iexact H0
  isplitl [H1]; · iexact H1
  isplitl [H2]; · iexact H2
  isplitl [H3]; · iexact H3
  isplitl [H4]; · iexact H4
  isplitl [H5]; · iexact H5
  isplitl [Hh]; · iexact Hh
  isplitl [Hm]; · iexact Hm
  isplitl [Hq]; · iexact Hq
  iintro ⟨H0, H1, H2, H3, H4, H5, Hh, Hm, Hq⟩
  isplitl [Hh Hm Hq HR]
  · iexists _; iexists _; iexists _
    isplitr; · ipureintro; exact goodB_step V c t hg
    isplitl [Hh]; · iexact Hh
    isplitl [Hm]; · iexact Hm
    isplitl [Hq]; · iexact Hq
    iexact HR
  isplitl [Howes]; · iexact Howes
  isplitl [H0]; · iexact H0
  isplitl [H1]; · iexact H1
  isplitl [H2]; · iexact H2
  isplitl [H3]; · iexact H3
  isplitl [H4]; · iexact H4
  by_cases h9 : t.val = 9
  · have hl := (lastB t).2 h9
    have hh : h2Bt (grid1.coords t) (qB V c t.val) (V c main_call0_v2_1) (V c main_call0_v2_2) h = H2 V c :=
      goodB_full V c (by have := goodB_step V c t hg; rwa [h9] at this ⊢)
    rw [if_pos hl, hh, h9]
    rw [idleB_5 t]
    simp only [h9, decide_true, Bool.not_true]
    iexact H5
  · have hl : ¬ last1 (grid1.coords t) := fun hl => h9 ((lastB t).1 hl)
    rw [if_neg hl]
    rw [idleB_5 t]
    simp only [h9, decide_false, Bool.not_false, noFlushB_5 t h9]
    iexists _; iexact H5

end Cert.KernelIdeal.Hand
end
-- ==== Proof.Run.lean ====
/-
  The whole program: the two passes as regions between the host's reshapes, every buffer's contents between them, and
  the run — it ends, with the arguments as launched and the result at what the second pass's last point stores.
-/
module

public import proofs.«01_k».proof.Proof.RegB
public import proofs.«01_k».proof.Proof.Gen.KernelIdeal.Regions
public import Idealize.ShloMosaic.Lib.Pipeline.ValueKit

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation)

variable {F : FTy → Type} [FloatOps F] [Named F]

local notation "𝕄" => MT nD τ sig Unit (Elt F) ℕ UU ℕ

variable (m : (ℓ : Loc nD τ sig) → Buf (Elt F) ℓ)

/-- What pass A is entered with. -/
def VA : Vals F := fun c b => V1 m c b

/-- What pass A leaves in its three results. -/
def leftA (c : Dev nD) : Valuation τ sig (Elt F) :=
  Function.update (Function.update (Function.update (V1 m c) main_call0_v2_0 ((datA (VA m) c).arrAt 6 cfg0.N))
    main_call0_v2_1 ((datA (VA m) c).arrAt 7 cfg0.N)) main_call0_v2_2 ((datA (VA m) c).arrAt 8 cfg0.N)

/-- What pass B is entered with. -/
def VB : Vals F := fun c b => StableHlo.after hostOps1 (leftA m c) b

/-- What pass B leaves. -/
def leftB (c : Dev nD) : Valuation τ sig (Elt F) :=
  Function.update (StableHlo.after hostOps1 (leftA m c)) main_v0 ((datB (VB m) c).arrAt 5 cfg1.N)

/-- What the passes leave. -/
def outs : Outs (F := F) := fun J r c => if J = 2 then leftA m c r else leftB m c r

theorem leftB_of (c : Dev nD) (r : Ref sig .tc) (h : r ≠ main_v0) : leftB m c r = VB m c r := by
  unfold leftB
  rw [Function.update_of_ne (StableHlo.devRef_ne_of_ne h)]
  rfl
theorem leftB_out (c : Dev nD) : leftB m c main_v0 = (datB (VB m) c).arrAt 5 cfg1.N := by
  unfold leftB
  rw [Function.update_self]

theorem leftA_of (c : Dev nD) (r : Ref sig .tc) (h0 : r ≠ main_call0_v2_0) (h1 : r ≠ main_call0_v2_1) (h2 : r ≠ main_call0_v2_2) :
    leftA m c r = VA m c r := by
  unfold leftA
  rw [Function.update_of_ne (StableHlo.devRef_ne_of_ne h2), Function.update_of_ne (StableHlo.devRef_ne_of_ne h1),
    Function.update_of_ne (StableHlo.devRef_ne_of_ne h0)]
  rfl
theorem leftA_q (c : Dev nD) : leftA m c main_call0_v2_0 = (datA (VA m) c).arrAt 6 cfg0.N := by
  unfold leftA
  rw [Function.update_of_ne (StableHlo.devRef_ne_of_ne (by decide)), Function.update_of_ne (StableHlo.devRef_ne_of_ne (by decide)), Function.update_self]
theorem leftA_s2 (c : Dev nD) : leftA m c main_call0_v2_1 = (datA (VA m) c).arrAt 7 cfg0.N := by
  unfold leftA
  rw [Function.update_of_ne (StableHlo.devRef_ne_of_ne (by decide)), Function.update_self]
theorem leftA_cs (c : Dev nD) : leftA m c main_call0_v2_2 = (datA (VA m) c).arrAt 8 cfg0.N := by
  unfold leftA
  rw [Function.update_self]

theorem V2_eq (c : Dev nD) : V2 m (outs m) c = leftA m c := by
  have e : ∀ r, outs m 2 r c = leftA m c r := fun r => if_pos rfl
  unfold V2
  rw [e, e, e]
  funext b
  unfold leftA
  by_cases h2 : b = (main_call0_v2_2 : DevRef τ sig)
  · subst h2; simp
  by_cases h1 : b = (main_call0_v2_1 : DevRef τ sig)
  · subst h1; simp
  by_cases h0 : b = (main_call0_v2_0 : DevRef τ sig)
  · subst h0; simp
  simp [h0, h1, h2]

theorem V3_eq (c : Dev nD) : V3 m (outs m) c = StableHlo.after hostOps1 (leftA m c) := by unfold V3; rw [V2_eq]

theorem V4_eq (c : Dev nD) : V4 m (outs m) c = leftB m c := by
  have e : outs m 4 main_v0 c = leftB m c main_v0 := if_neg (by decide)
  unfold V4
  rw [e, V3_eq, leftB_out]
  rfl

/-- The two passes' proof data. -/
def pdats : (p : Fin 2) → (c : Dev nD) → Dat τ (Elt F) Unit ℕ UU ℕ (cfgs p) c
  | ⟨0, _⟩ => fun c => datA (VA m) c
  | ⟨1, _⟩ => fun c => datB (VB m) c

/-- No core owes another anything: no level is assigned. -/
abbrev L : GSem nD τ sig → Finset Unit := fun _ => ∅
abbrev lv : GSem nD τ sig → Unit → ℕ := fun _ _ => 0

/-- What rides beside the buffers: nothing is owed. -/
abbrev idleE (c : Dev nD) : sProp 𝕄 := iprop(∃ W, owes (c : Thread nD τ) (0 : CellTallies nD τ sig Unit) W)

theorem invA_in (V : Vals F) (c : Dev nD) :
    (Pipeline.scopedRest (Ix := Unit) (Name := ℕ) (U := UU) (Lvl := ℕ) (Val := Elt F) spec0 c : sProp 𝕄) ⊢ invA V c 0 := by
  rw [scopedRest0_eq]
  unfold invA restA
  iintro ⟨⟨%s1, H1⟩, ⟨%h, H2⟩, ⟨%sm, H3⟩, ⟨%sq, H4⟩, HR⟩
  iexists s1; iexists h; iexists sm; iexists sq
  isplitr; · ipureintro; exact goodA_zero V c _ _ _ _
  unfold own
  rw [owns_whole, owns_whole, owns_whole, owns_whole]
  isplitl [H1]; · iexact H1
  isplitl [H2]; · iexact H2
  isplitl [H3]; · iexact H3
  isplitl [H4]; · iexact H4
  iexact HR

theorem invA_out (V : Vals F) (c : Dev nD) (n : ℕ) :
    invA V c n ⊢ (Pipeline.scopedRest (Ix := Unit) (Name := ℕ) (U := UU) (Lvl := ℕ) (Val := Elt F) spec0 c : sProp 𝕄) := by
  rw [scopedRest0_eq]
  unfold invA restA own
  simp only [owns_whole]
  iintro ⟨%s1, %h, %sm, %sq, -, H1, H2, H3, H4, HR⟩
  isplitl [H1]; · iexists _; iexact H1
  isplitl [H2]; · iexists _; iexact H2
  isplitl [H3]; · iexists _; iexact H3
  isplitl [H4]; · iexists _; iexact H4
  iexact HR

theorem invB_in (V : Vals F) (c : Dev nD) :
    (Pipeline.scopedRest (Ix := Unit) (Name := ℕ) (U := UU) (Lvl := ℕ) (Val := Elt F) spec1 c : sProp 𝕄) ⊢ invB V c 0 := by
  rw [scopedRest1_eq]
  unfold invB restB
  iintro ⟨R1, R2, R3, R4, R5, R6, R7, R8, R9, R10, R11, R12, R13, R14, R15, ⟨%h, H1⟩, ⟨%sm, H2⟩, ⟨%sq, H3⟩⟩
  iexists h; iexists sm; iexists sq
  isplitr; · ipureintro; exact goodB_zero V c _ _ _
  unfold own
  rw [owns_whole, owns_whole, owns_whole]
  isplitl [H1]; · iexact H1
  isplitl [H2]; · iexact H2
  isplitl [H3]; · iexact H3
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

theorem invB_out (V : Vals F) (c : Dev nD) (n : ℕ) :
    invB V c n ⊢ (Pipeline.scopedRest (Ix := Unit) (Name := ℕ) (U := UU) (Lvl := ℕ) (Val := Elt F) spec1 c : sProp 𝕄) := by
  rw [scopedRest1_eq]
  unfold invB restB own
  simp only [owns_whole]
  iintro ⟨%h, %sm, %sq, -, H1, H2, H3, R1, R2, R3, R4, R5, R6, R7, R8, R9, R10, R11, R12, R13, R14, R15⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [H1]; · iexists _; iexact H1
  isplitl [H2]; · iexists _; iexact H2
  iexists _; iexact H3

/-- What each window's array holds after pass A. -/
theorem leftA_arr (c : Dev nD) : ∀ w : Fin cfg0.W, (datA (VA m) c).arrAt w cfg0.N = leftA m c (Pipeline.arrRef spec0 w) :=
      fun w => match w with
        | 0 => ((datA (VA m) c).arrAt_in 0 rfl _).trans (leftA_of m c main_arg0 (by decide) (by decide) (by decide)).symm
        | 1 => ((datA (VA m) c).arrAt_in 1 rfl _).trans (leftA_of m c main_arg2 (by decide) (by decide) (by decide)).symm
        | 2 => ((datA (VA m) c).arrAt_in 2 rfl _).trans (leftA_of m c main_call0_v0 (by decide) (by decide) (by decide)).symm
        | 3 => ((datA (VA m) c).arrAt_in 3 rfl _).trans (leftA_of m c main_call0_v1 (by decide) (by decide) (by decide)).symm
        | 4 => ((datA (VA m) c).arrAt_in 4 rfl _).trans (leftA_of m c main_arg6 (by decide) (by decide) (by decide)).symm
        | 5 => ((datA (VA m) c).arrAt_in 5 rfl _).trans (leftA_of m c main_arg1 (by decide) (by decide) (by decide)).symm
        | 6 => (leftA_q m c).symm
        | 7 => (leftA_s2 m c).symm
        | 8 => (leftA_cs m c).symm

set_option backward.isDefEq.respectTransparency.types false in
/-- Pass A as a region between the two host stretches. -/
def regA : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (bodyA_obligation (VA m) c).loose
  hwaits := Pipeline.hwaits_of_owed_zero _ _ _ _ L lv 0 fun _ _ => rfl
  pre c := iprop(unscopedBufs c (VA m c) ∗ idleE c)
  post c := iprop(unscopedBufs c (fun b => leftA m c b) ∗ idleE c)
  X _ := BI.emp
  Y _ := BI.emp
  Z c := Pipeline.unscopedRest (Ix := Unit) (Name := ℕ) (U := UU) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = invA (VA m) c 0 from rfl]
    iintro ⟨-, -, Hr⟩
    iapply invA_in
    iexact Hr
  hout c := by
    rw [Pipeline.ownSems0_none, show (pdats m 0 c).Φ (Fin.last _) = invA (VA m) c cfg0.N from rfl]
    iintro Hr
    isplitr; · iempintro
    isplitr; · iempintro
    iapply invA_out
    iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (VA m c) (fun b => leftA m c b) ((pdats m 0 c).arrAt · cfg0.N)
      (leftA_arr m c)
      (fun b hb =>
        have hne : ∀ w : Fin 9, b ≠ Pipeline.arrRef spec0 w := fun w h => hb (h ▸ Finset.mem_image.mpr ⟨w, Finset.mem_univ _, rfl⟩)
        leftA_of m c b (hne 6) (hne 7) (hne 8))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- What each window's array holds after pass B. -/
theorem leftB_arr (c : Dev nD) : ∀ w : Fin cfg1.W, (datB (VB m) c).arrAt w cfg1.N = leftB m c (Pipeline.arrRef spec1 w) :=
      fun w => match w with
        | 0 => ((datB (VB m) c).arrAt_in 0 rfl _).trans (leftB_of m c main_call0_v3 (by decide)).symm
        | 1 => ((datB (VB m) c).arrAt_in 1 rfl _).trans (leftB_of m c main_call0_v4 (by decide)).symm
        | 2 => ((datB (VB m) c).arrAt_in 2 rfl _).trans (leftB_of m c main_call0_v2_1 (by decide)).symm
        | 3 => ((datB (VB m) c).arrAt_in 3 rfl _).trans (leftB_of m c main_call0_v2_2 (by decide)).symm
        | 4 => ((datB (VB m) c).arrAt_in 4 rfl _).trans (leftB_of m c main_call0_v2_0 (by decide)).symm
        | 5 => (leftB_out m c).symm

set_option backward.isDefEq.respectTransparency.types false in
/-- Pass B as a region after the second host stretch. -/
def regB : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (bodyB_obligation (VB m) c).loose
  hwaits := Pipeline.hwaits_of_owed_zero _ _ _ _ L lv 1 fun _ _ => rfl
  pre c := iprop(unscopedBufs c (VB m c) ∗ idleE c)
  post c := iprop(unscopedBufs c (fun b => leftB m c b) ∗ idleE c)
  X _ := BI.emp
  Y _ := BI.emp
  Z c := Pipeline.unscopedRest (Ix := Unit) (Name := ℕ) (U := UU) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = invB (VB m) c 0 from rfl]
    iintro ⟨-, -, Hr⟩
    iapply invB_in
    iexact Hr
  hout c := by
    rw [Pipeline.ownSems0_none, show (pdats m 1 c).Φ (Fin.last _) = invB (VB m) c cfg1.N from rfl]
    iintro Hr
    isplitr; · iempintro
    isplitr; · iempintro
    iapply invB_out
    iexact Hr
  hexit c := by
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (VB m c) (fun b => leftB m c b) ((pdats m 1 c).arrAt · cfg1.N)
      (leftB_arr m c)
      (fun b hb => leftB_of m c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand
end
-- ==== Proof.RunMain.lean ====
/-
  The run of the whole program: from any memory it ends, the arguments are as launched, the semaphores are at rest and
  the result is what the second pass leaves in it.
-/
module

public import proofs.«01_k».proof.Proof.Run

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation)

variable {F : FTy → Type} [FloatOps F] [Named F]

local notation "𝕄" => MT nD τ sig Unit (Elt F) ℕ UU ℕ

variable (m : (ℓ : Loc nD τ sig) → Buf (Elt F) ℓ)

/-- The program's launch funds the pipelines' staging cells and nothing else. -/
def u₀ : UU := initOf (Pipeline.cells cfgs cellOf_inj) (Pipeline.launchToks cfgs cellOf_inj)

/-- What the launch gives a core holds its buffers at their launch contents and that it owes nothing. -/
theorem enter (ρ : Dev nD → PrngReg) (c : Dev nD) :
    (iprop(unscopedBufs c (fun b => m ((c.tc : Thread nD τ).loc b)) ∗ unscopedSems0 c ∗ owes (c.tc : Thread nD τ) (0 : CellTallies nD τ sig Unit) ∅
      ∗ Pipeline.launchCred (fun _ => 0) c ∗ prngReg c (ρ c) ∗ emp) : sProp 𝕄)
    ⊢ iprop(StableHlo.held (c : Thread nD τ) (Pipeline.ucRefs τ sig) (V0 m c) ∗ idleE c) := by
  have hb : (unscopedBufs c (fun b => m ((c.tc : Thread nD τ).loc b)) : sProp 𝕄) = StableHlo.held (c : Thread nD τ) (Pipeline.ucRefs τ sig) (V0 m c) :=
    Pipeline.unscopedBufs_held c (V0 m c)
  rw [hb]
  unfold idleE
  iintro ⟨Hb, -, HO, -⟩
  isplitl [Hb]; · iexact Hb
  iexists _; iexact HO

set_option backward.isDefEq.respectTransparency.types false in
/-- Every execution ends with the arguments as launched, the result at what pass B leaves, every semaphore at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v0) = (datB (VB m) c).arrAt 5 cfg1.N)
      ∧ r.2.sem = fun _ => 0) := by
  refine Pipeline.θ_run_regions_kit_dev_sems (pcfgs (F := F)) adm (pdats m) () cellOf_inj emb₁ defs₀ Variants.none L lv m ρ main
    (segs m (outs m) Variants.none L lv (fun _ c => idleE c) () (pdats m) (regA m) (regB m))
    (fun c Q => by
      rewrite [main_chain c, Seg.run_eq_chain,
        show (segs m (outs m) Variants.none L lv (fun _ c => idleE c) () (pdats m) (regA m) (regB m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide)
    (fun _ => 0) (fun _ _ => rfl) (fun _ => iprop(emp)) u₀
    (by
      iintro Hu; imodintro
      isplitl [Hu]; · iapply (show (ownU u₀ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idleE c))
    (Tₙ := fun c => StableHlo.held (c : Thread nD τ) (Pipeline.ucRefs τ sig) (V4 m (outs m) c))
    (hch := fun c => ⟨.rfl, ?_, ?_, ?_, ?_⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_v0) = (datB (VB m) c).arrAt 5 cfg1.N)
    (hfin := fun c s' => ?_) (hQ := fun _ h hz => ⟨h, funext fun g => hz g (.inr (regions_no_unscoped g.2))⟩)
  · exact sep_mono (Entails.of_eq (Pipeline.unscopedBufs_held c (V1 m c)).symm) .rfl
  · refine sep_mono (Entails.of_eq ?_) .rfl
    rw [V2_eq]
    exact Pipeline.unscopedBufs_held c (leftA m c)
  · refine sep_mono (Entails.of_eq ?_) .rfl
    rw [V2_eq]
    exact (Pipeline.unscopedBufs_held c (StableHlo.after hostOps1 (leftA m c))).symm
  · refine sep_mono (Entails.of_eq ?_) .rfl
    rw [V4_eq]
    exact Pipeline.unscopedBufs_held c (leftB m c)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ idleE c) : sProp 𝕄) :=
      bigSep_mono fun c _ => enter m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c),
        (h (Proc.devRef .tc main_arg8) (Finset.mem_filter.mpr ⟨StableHlo.devRef_mem_tcRefs main_arg8, by decide⟩)).trans (V4_main_arg8 m (outs m) c),
        (h (Proc.devRef .tc main_arg9) (Finset.mem_filter.mpr ⟨StableHlo.devRef_mem_tcRefs main_arg9, by decide⟩)).trans (V4_main_arg9 m (outs m) c),
        (h (Proc.devRef .tc main_v0) (Finset.mem_filter.mpr ⟨StableHlo.devRef_mem_tcRefs main_v0, by decide⟩)).trans ((congrFun (V4_eq m c) (Proc.devRef .tc main_v0)).trans (leftB_out m c))⟩
    · iexact HSI

/-- The program's frame: it ends with its arguments unchanged and every semaphore at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
    have ⟨h0, h1, h2, h3, h4, h5, h6, h7, h8, h9, _⟩ := h.1 c
    ⟨h0, h1, h2, h3, h4, h5, h6, h7, h8, h9⟩, h.2⟩) (run m ρ)

end Cert.KernelIdeal.Hand
end
-- ==== Proof.Fin.lean ====
/-
  The precondition `finite`, read back: every argument but the last shift is an array of reals.
-/
module

public import proofs.«01_k».proof.Pre_finite
public import Idealize.ShloMosaic.Lib.Pipeline.ValueKit
public import Idealize.ShloMosaic.Lib.ReduceAll
public import Idealize.ShloMosaic.PureOps.Ideal

@[expose] public section

noncomputable section

namespace Cert.Pre_finite

open Idealize.ShloMosaic Idealize.ShloMosaic.Tactic

/-- The shape relations of the precondition's operations. -/
theorem facts : Facts where
  bcast_S_S10000x128 := by decide
  reducesTo_S10000x128_S_d0_1 := by decide
  h_S_ := by decide
  bcast_S_S10000x10000 := by decide
  reducesTo_S10000x10000_S_d0_1 := by decide
  bcast_S_S128x128 := by decide
  reducesTo_S128x128_S_d0_1 := by decide
  bcast_S_S128 := by decide
  reducesTo_S128_S_d0 := by decide
  bcast_S_S128x64 := by decide
  reducesTo_S128x64_S_d0_1 := by decide
  bcast_S_S64 := by decide
  reducesTo_S64_S_d0 := by decide

/-- The word of the bound is infinity. -/
theorem word_top : Ideal.ofBits .f32 0x7F800000#32 = (⊤ : EReal) := by
  simp [Ideal.ofBits, Ideal.ieee, -EReal.coe_mul]

/-- An entry whose absolute value is below infinity is a real. -/
theorem real_of_lt (x : EReal) (h : max x (-x) < ⊤) : ((x.toReal : ℝ) : EReal) = x := by
  induction x with
  | bot => simp at h
  | top => simp at h
  | coe r => rfl

/-- A comparison that holds at an entry makes it a real. -/
theorem real_of_cmp {S : Shape} (b : S_.BroadcastsInDim S (![] : Fin 0 → Fin S.rank)) (x : FVec Ideal S .f32) (i : S.Idx)
    (h : cmpf .olt (Host.absf x) (broadcastInDim S ![] b (constant S_ .f32 0x7F800000#32)) i = 1#1) : (((x i : EReal).toReal : ℝ) : EReal) = x i := by
  pointwise at h
  have h' : decide (max (x i : EReal) (-(x i : EReal)) < Ideal.ofBits .f32 0x7F800000#32) = true := by
    cases e : decide (max (x i : EReal) (-(x i : EReal)) < Ideal.ofBits .f32 0x7F800000#32) with
    | true => rfl
    | false => exact absurd (h.symm.trans (congrArg BitVec.ofBool e)) (by decide)
  rw [word_top] at h'
  exact real_of_lt _ (of_decide_eq_true h')

/-- Two words whose conjunction holds at an index both hold there. -/
theorem both (x y : IVec S_ 1) (j : S_.Idx) (h : andi x y j = 1#1) : x j = 1#1 ∧ y j = 1#1 := by
  have h' : x j &&& y j = 1#1 := h
  revert h'
  generalize x j = a
  generalize y j = b
  revert a b
  decide

instance : Subsingleton S_.Idx := ⟨fun a b => funext fun i => i.elim0⟩

attribute [local instance] facts

/-- Where the precondition holds, every argument but the last shift is an array of reals. -/
theorem reals (x0 : FVec Ideal S10000x128 .f32) (x1 : FVec Ideal S10000x10000 .f32) (x2 : FVec Ideal S128x128 .f32)
    (x3 x4 x5 : FVec Ideal S128 .f32) (x6 : FVec Ideal S128x64 .f32) (x7 x8 x9 : FVec Ideal S64 .f32) (j : S_.Idx)
    (h : fn (F := Ideal) x0 x1 x2 x3 x4 x5 x6 x7 x8 x9 j = 1#1) :
    (∀ i, (((x0 i : EReal).toReal : ℝ) : EReal) = x0 i) ∧ (∀ i, (((x1 i : EReal).toReal : ℝ) : EReal) = x1 i) ∧
      (∀ i, (((x2 i : EReal).toReal : ℝ) : EReal) = x2 i) ∧ (∀ i, (((x3 i : EReal).toReal : ℝ) : EReal) = x3 i) ∧
      (∀ i, (((x4 i : EReal).toReal : ℝ) : EReal) = x4 i) ∧ (∀ i, (((x5 i : EReal).toReal : ℝ) : EReal) = x5 i) ∧
      (∀ i, (((x6 i : EReal).toReal : ℝ) : EReal) = x6 i) ∧ (∀ i, (((x7 i : EReal).toReal : ℝ) : EReal) = x7 i) ∧
      (∀ i, (((x8 i : EReal).toReal : ℝ) : EReal) = x8 i) := by
  dsimp only [fn, fn_part1, fn_part2] at h
  obtain ⟨h, h8⟩ := both _ _ _ h
  obtain ⟨h, h7⟩ := both _ _ _ h
  obtain ⟨h, h6⟩ := both _ _ _ h
  obtain ⟨h, h5⟩ := both _ _ _ h
  obtain ⟨h, h4⟩ := both _ _ _ h
  obtain ⟨h, h3⟩ := both _ _ _ h
  obtain ⟨h, h2⟩ := both _ _ _ h
  obtain ⟨h0, h1⟩ := both _ _ _ h
  exact ⟨fun i => real_of_cmp _ _ i (Host.reduce_andi_all _ _ _ _ _ h0 i), fun i => real_of_cmp _ _ i (Host.reduce_andi_all _ _ _ _ _ h1 i),
    fun i => real_of_cmp _ _ i (Host.reduce_andi_all _ _ _ _ _ h2 i), fun i => real_of_cmp _ _ i (Host.reduce_andi_all _ _ _ _ _ h3 i),
    fun i => real_of_cmp _ _ i (Host.reduce_andi_all _ _ _ _ _ h4 i), fun i => real_of_cmp _ _ i (Host.reduce_andi_all _ _ _ _ _ h5 i),
    fun i => real_of_cmp _ _ i (Host.reduce_andi_all _ _ _ _ _ h6 i), fun i => real_of_cmp _ _ i (Host.reduce_andi_all _ _ _ _ _ h7 i),
    fun i => real_of_cmp _ _ i (Host.reduce_andi_all _ _ _ _ _ h8 i)⟩

end Cert.Pre_finite
end
-- ==== Proof.Consts.lean ====
/-
  The numbers that the two programs write down, as the reals their words denote.
-/
module

public import Idealize.ShloMosaic.PureOps.Ideal

@[expose] public section

noncomputable section

namespace Cert.Consts

open Idealize.ShloMosaic

/-- The number of nodes. -/
theorem word_n : Ideal.ofBits .f32 0x461C4000#32 = ((10000 : ℝ) : EReal) := by
  simp [Ideal.ofBits, Ideal.ieee, -EReal.coe_mul]; norm_num

/-- The number of steps between 0 and 1 that an adjacency entry is rounded to. -/
theorem word_steps : Ideal.ofBits .f32 0x437F0000#32 = ((255 : ℝ) : EReal) := by
  simp [Ideal.ofBits, Ideal.ieee, -EReal.coe_mul]; norm_num

/-- What is taken off a step number so that it fits a signed byte. -/
theorem word_half : Ideal.ofBits .f32 0x43000000#32 = ((128 : ℝ) : EReal) := by
  simp [Ideal.ofBits, Ideal.ieee, -EReal.coe_mul]; norm_num

/-- The number added to a variance, nearest to 1/100000. -/
def eps : ℝ := 10995116 / 2 ^ 40

theorem eps_pos : 0 < eps := by unfold eps; norm_num

theorem word_eps : Ideal.ofBits .f32 0x3727C5AC#32 = (eps : EReal) := by
  simp [Ideal.ofBits, Ideal.ieee, eps, -EReal.coe_mul]; norm_num

end Cert.Consts

end
-- ==== Proof.Norm.lean ====
/-
  Batch normalisation of a column followed by the rectifier, as the kernel writes it (from the sum and the sum of squares
  of the column without its bias) and as the reference does (from the column with its bias): one value.
-/
module

public import proofs.«01_k».proof.Proof.Consts

@[expose] public section

noncomputable section

namespace Cert.Gcn

open Idealize.ShloMosaic Cert.Consts

/-- A sum of reals is the same over the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_max (a b : ℝ) : ((max a b : ℝ) : EReal) = max (a : EReal) (b : EReal) :=
  EReal.coe_strictMono.monotone.map_max

/-- The kernel's normalisation of an entry `h`, of a column with sum `s` and sum of squares `q`. -/
def kbn (s q h g b : EReal) : EReal :=
  max (h * (g * Ideal.rsqrt (q * ((1 / 10000 : ℝ) : EReal) - s * ((1 / 10000 : ℝ) : EReal) * (s * ((1 / 10000 : ℝ) : EReal)) + (eps : EReal)))
    + (b - s * ((1 / 10000 : ℝ) : EReal)
        * (g * Ideal.rsqrt (q * ((1 / 10000 : ℝ) : EReal) - s * ((1 / 10000 : ℝ) : EReal) * (s * ((1 / 10000 : ℝ) : EReal)) + (eps : EReal))))) 0

/-- A column's mean. -/
def mean (f : Fin 10000 → EReal) : EReal := Ideal.div (∑ i, f i) ((10000 : ℝ) : EReal)

/-- A column's variance. -/
def var (f : Fin 10000 → EReal) : EReal := Ideal.div (∑ i, (f i - mean f) * (f i - mean f)) ((10000 : ℝ) : EReal)

/-- The reference's normalisation of entry `i` of a column. -/
def rbn (f : Fin 10000 → EReal) (i : Fin 10000) (g b : EReal) : EReal :=
  max (Ideal.div (f i - mean f) (Ideal.sqrt (var f + (eps : EReal))) * g + b) 0

section Real

variable (u : Fin 10000 → ℝ)

/-- The mean of a column of reals. -/
def mu : ℝ := (∑ i, u i) * (1 / 10000)

/-- The variance of a column of reals. -/
def sg : ℝ := (∑ i, (u i - mu u) * (u i - mu u)) * (1 / 10000)

theorem sg_nonneg : 0 ≤ sg u :=
  mul_nonneg (Finset.sum_nonneg fun i _ => mul_self_nonneg _) (by norm_num)

/-- The variance is the mean square less the square of the mean. -/
theorem sg_eq : (∑ i, u i * u i) * (1 / 10000) - mu u * mu u = sg u := by
  have h : ∀ i, (u i - mu u) * (u i - mu u) = u i * u i - 2 * mu u * u i + mu u * mu u := fun i => by ring
  have hs : ∑ i, u i = 10000 * mu u := by unfold mu; ring
  unfold sg
  rw [Finset.sum_congr rfl fun i _ => h i, Finset.sum_add_distrib, Finset.sum_sub_distrib, ← Finset.mul_sum, hs,
    Finset.sum_const, Finset.card_univ, Fintype.card_fin, nsmul_eq_mul]
  push_cast
  ring

theorem mean_coe : mean (fun i => (u i : EReal)) = (mu u : EReal) := by
  unfold mean mu
  rw [Ideal.div_coe (by norm_num), ← coe_sum, ← EReal.coe_mul]

theorem var_coe : var (fun i => (u i : EReal)) = (sg u : EReal) := by
  unfold var sg
  rw [Ideal.div_coe (by norm_num), mean_coe]
  simp only [← EReal.coe_sub, ← EReal.coe_mul, ← coe_sum]

/-- A bias shifts the mean and leaves the variance. -/
theorem mu_add (β : ℝ) : mu (fun i => u i + β) = mu u + β := by
  unfold mu
  rw [Finset.sum_add_distrib, Finset.sum_const, Finset.card_univ, Fintype.card_fin, nsmul_eq_mul]
  push_cast
  ring

theorem sg_add (β : ℝ) : sg (fun i => u i + β) = sg u := by
  unfold sg
  rw [mu_add]
  simp only [add_sub_add_right_eq_sub]

/-- The reference's normalisation of a column of reals. -/
theorem rbn_coe (i : Fin 10000) (γ : ℝ) (b : EReal) :
    rbn (fun i => (u i : EReal)) i (γ : EReal) b = max ((((u i - mu u) * (1 / Real.sqrt (sg u + eps)) * γ : ℝ) : EReal) + b) 0 := by
  have hp : 0 < sg u + eps := add_pos_of_nonneg_of_pos (sg_nonneg u) eps_pos
  unfold rbn
  rw [var_coe, mean_coe, ← EReal.coe_add, Ideal.sqrt_coe, if_neg (not_lt.2 hp.le), ← EReal.coe_sub,
    Ideal.div_coe (Real.sqrt_ne_zero'.2 hp), ← EReal.coe_mul, ← EReal.coe_mul]

/-- With a real shift it is a real. -/
theorem rbn_real (i : Fin 10000) (γ b : ℝ) :
    rbn (fun i => (u i : EReal)) i (γ : EReal) (b : EReal) = ((max ((u i - mu u) * (1 / Real.sqrt (sg u + eps)) * γ + b) 0 : ℝ) : EReal) := by
  rw [rbn_coe, coe_max, EReal.coe_add, EReal.coe_zero]

/-- Reals moved across a shift that may be infinite. -/
theorem shift_coe (p q : ℝ) (b : EReal) : (p : EReal) + (b - (q : EReal)) = ((p - q : ℝ) : EReal) + b := by
  induction b with
  | bot => simp
  | top => rw [EReal.top_sub_coe, EReal.coe_add_top, EReal.coe_add_top]
  | coe b => rw [← EReal.coe_sub, ← EReal.coe_add, ← EReal.coe_add]; congr 1; ring

/-- The kernel's normalisation of a column without its bias is the reference's of the column with it. -/
theorem kbn_eq_rbn (i : Fin 10000) (β γ : ℝ) (b : EReal) :
    kbn (∑ i, (u i : EReal)) (∑ i, (u i : EReal) * (u i : EReal)) (u i : EReal) (γ : EReal) b
      = rbn (fun i => (u i : EReal) + (β : EReal)) i (γ : EReal) b := by
  have hp : 0 < sg u + eps := add_pos_of_nonneg_of_pos (sg_nonneg u) eps_pos
  have hr := rbn_coe (fun i => u i + β) i γ b
  simp only [EReal.coe_add, mu_add, sg_add, add_sub_add_right_eq_sub] at hr
  rw [hr]
  unfold kbn
  simp only [← EReal.coe_mul, ← coe_sum, ← EReal.coe_sub, ← EReal.coe_add]
  have hv : (∑ i, u i * u i) * (1 / 10000) - (∑ i, u i) * (1 / 10000) * ((∑ i, u i) * (1 / 10000)) + eps = sg u + eps := by
    rw [← sg_eq u]; rfl
  rw [hv, Ideal.rsqrt_coe, if_neg (not_lt.2 hp.le), if_neg hp.ne']
  simp only [← EReal.coe_mul]
  rw [shift_coe]
  congr 3
  unfold mu
  ring

end Real

end Cert.Gcn

end
-- ==== Proof.Quant.lean ====
/-
  The rounding of an adjacency entry to a multiple of 1/255: the signed byte the kernel stores, put back by its two
  factors, is the reference's rounded and clipped entry.
-/
module

public import proofs.«01_k».proof.Proof.Norm

@[expose] public section

noncomputable section

namespace Cert.Gcn

open Idealize.ShloMosaic Cert.Consts

/-- Rounding to nearest, ties to even, is carried along by a shift by 128. -/
theorem round_sub (r : ℝ) : Ideal.roundHalfEven (r - 128) = Ideal.roundHalfEven r - 128 := by
  have hf : ⌊r - 128⌋ = ⌊r⌋ - 128 := by
    have := Int.floor_sub_intCast r 128
    push_cast at this
    exact this
  have he : Even (⌊r⌋ - 128) ↔ Even ⌊r⌋ := by
    rw [Int.even_sub]
    exact ⟨fun h => h.2 (by decide), fun h => ⟨fun _ => by decide, fun _ => h⟩⟩
  unfold Ideal.roundHalfEven
  simp only [hf, he]
  have hd : r - 128 - ((⌊r⌋ - 128 : ℤ) : ℝ) = r - ⌊r⌋ := by push_cast; ring
  rw [hd]
  split_ifs <;> ring

/-- The signed byte that the kernel stores for an entry. -/
def byte (a : EReal) : BitVec 8 :=
  Ideal.fptosi 8 (Ideal.liftRound Ideal.roundHalfEven (a * ((255 : ℝ) : EReal) - ((128 : ℝ) : EReal)))

/-- The entry as the reference's quantiser rounds and clips it. -/
def quant (a : EReal) : EReal :=
  Ideal.div (min ((255 : ℝ) : EReal) (max 0 (Ideal.liftRound Ideal.roundHalfEven (a * ((255 : ℝ) : EReal))))) ((255 : ℝ) : EReal)

/-- The step number of a real entry, less 128. -/
def level (a : ℝ) : ℤ := max (-128) (min 127 (Ideal.roundHalfEven (a * 255) - 128))

theorem byte_coe (a : ℝ) : (byte (a : EReal)).toInt = level a := by
  unfold byte level
  rw [← EReal.coe_mul, ← EReal.coe_sub, Ideal.liftRound_coe, round_sub, Ideal.fptosi, Ideal.toIntClamped_coe, Int.floor_intCast,
    Int.ceil_intCast, ite_self]
  generalize Ideal.roundHalfEven (a * 255) - 128 = z
  have e1 : (-((2 ^ (8 - 1) : ℕ) : ℤ)) = -128 := by norm_num
  have e2 : (((2 ^ (8 - 1) : ℕ) : ℤ) - 1) = 127 := by norm_num
  rw [e1, e2, BitVec.toInt_ofInt, Int.bmod_def]
  omega

theorem quant_coe (a : ℝ) : quant (a : EReal) = ((((level a : ℤ) : ℝ) * (1 / 255) + 128 / 255 : ℝ) : EReal) := by
  unfold quant level
  rw [← EReal.coe_mul, Ideal.liftRound_coe, Ideal.div_coe (by norm_num)]
  generalize Ideal.roundHalfEven (a * 255) = z
  have hmin : min ((255 : ℝ) : EReal) (max 0 ((z : ℝ) : EReal)) = ((((max (-128) (min 127 (z - 128)) + 128 : ℤ) : ℝ)) : EReal) := by
    have h0 : (max (-128) (min 127 (z - 128)) + 128 : ℤ) = min 255 (max 0 z) := by omega
    rw [h0, ← EReal.coe_zero, ← coe_max, ← EReal.coe_strictMono.monotone.map_min]
    push_cast
    rfl
  rw [hmin, ← EReal.coe_mul]
  congr 1
  push_cast
  ring

end Cert.Gcn

end
-- ==== Proof.Stepped.lean ====
/-
  The precondition `stepped`, read back: the quantiser leaves every adjacency entry as it is, and every other argument but
  the last shift is an array of reals.
-/
module

public import proofs.«01_k».proof.Pre_stepped
public import proofs.«01_k».proof.Proof.Fin
public import proofs.«01_k».proof.Proof.Quant

@[expose] public section

noncomputable section

namespace Cert.Pre_stepped

open Idealize.ShloMosaic Idealize.ShloMosaic.Tactic
open Cert.Gcn Cert.Consts
open Cert.Pre_finite (both real_of_cmp)

/-- The shape relations of the precondition's operations. -/
theorem facts : Facts where
  bcast_S_S10000x10000 := by decide
  bcast_S_S10000x128 := by decide
  reducesTo_S10000x128_S_d0_1 := by decide
  h_S_ := by decide
  reducesTo_S10000x10000_S_d0_1 := by decide
  bcast_S_S128x128 := by decide
  reducesTo_S128x128_S_d0_1 := by decide
  bcast_S_S128 := by decide
  reducesTo_S128_S_d0 := by decide
  bcast_S_S128x64 := by decide
  reducesTo_S128x64_S_d0_1 := by decide
  bcast_S_S64 := by decide
  reducesTo_S64_S_d0 := by decide

attribute [local instance] facts

/-- The two bounds that the quantiser clips at. -/
theorem bound_top : FloatOps.ofBits (F := Ideal) .f32 0x437F0000#32 = ((255 : ℝ) : EReal) := word_steps
theorem bound_zero : FloatOps.ofBits (F := Ideal) .f32 0x00000000#32 = (0 : EReal) := Ideal.ofBits_zero_f32

/-- The quantiser's value is a real, whatever it is given. -/
theorem quant_real (a : EReal) : (((quant a).toReal : ℝ) : EReal) = quant a := by
  unfold quant
  generalize Ideal.liftRound Ideal.roundHalfEven (a * ((255 : ℝ) : EReal)) = y
  have h0 : (0 : EReal) ≤ min ((255 : ℝ) : EReal) (max 0 y) := le_min (by exact_mod_cast (by norm_num : (0 : ℝ) ≤ 255)) (le_max_left _ _)
  have h1 : min ((255 : ℝ) : EReal) (max 0 y) ≤ ((255 : ℝ) : EReal) := min_le_left _ _
  generalize min ((255 : ℝ) : EReal) (max 0 y) = z at h0 h1
  induction z with
  | bot => exact absurd h0 (by simp)
  | top => exact absurd h1 (by simp)
  | coe r => rw [Ideal.div_coe (by norm_num), ← EReal.coe_mul]; rfl

/-- A comparison for equality that holds at an entry is an equation. -/
theorem eq_of_cmp {S : Shape} (x y : FVec Ideal S .f32) (i : S.Idx) (h : cmpf .oeq x y i = 1#1) : (x i : EReal) = y i := by
  have h' : BitVec.ofBool (decide ((x i : EReal) = y i)) = 1#1 := h
  by_contra hne
  rw [decide_eq_false hne] at h'
  exact absurd h' (by decide)

instance : Subsingleton S_.Idx := ⟨fun a b => funext fun i => i.elim0⟩

/-- Where the precondition holds, the quantiser keeps the adjacency, and every other argument but the last shift is an
    array of reals. -/
theorem reals (x0 : FVec Ideal S10000x128 .f32) (x1 : FVec Ideal S10000x10000 .f32) (x2 : FVec Ideal S128x128 .f32)
    (x3 x4 x5 : FVec Ideal S128 .f32) (x6 : FVec Ideal S128x64 .f32) (x7 x8 x9 : FVec Ideal S64 .f32) (j : S_.Idx)
    (h : fn (F := Ideal) x0 x1 x2 x3 x4 x5 x6 x7 x8 x9 j = 1#1) :
    (∀ i, (((x0 i : EReal).toReal : ℝ) : EReal) = x0 i) ∧ (∀ i, quant (x1 i) = x1 i) ∧
      (∀ i, (((x2 i : EReal).toReal : ℝ) : EReal) = x2 i) ∧ (∀ i, (((x3 i : EReal).toReal : ℝ) : EReal) = x3 i) ∧
      (∀ i, (((x4 i : EReal).toReal : ℝ) : EReal) = x4 i) ∧ (∀ i, (((x5 i : EReal).toReal : ℝ) : EReal) = x5 i) ∧
      (∀ i, (((x6 i : EReal).toReal : ℝ) : EReal) = x6 i) ∧ (∀ i, (((x7 i : EReal).toReal : ℝ) : EReal) = x7 i) ∧
      (∀ i, (((x8 i : EReal).toReal : ℝ) : EReal) = x8 i) := by
  dsimp only [fn, fn_part1, fn_part2] at h
  obtain ⟨h, h8⟩ := both _ _ _ h
  obtain ⟨h, h7⟩ := both _ _ _ h
  obtain ⟨h, h6⟩ := both _ _ _ h
  obtain ⟨h, h5⟩ := both _ _ _ h
  obtain ⟨h, h4⟩ := both _ _ _ h
  obtain ⟨h, h3⟩ := both _ _ _ h
  obtain ⟨h, h2⟩ := both _ _ _ h
  obtain ⟨h0, h1⟩ := both _ _ _ h
  refine ⟨fun i => real_of_cmp _ _ i (Host.reduce_andi_all _ _ _ _ _ h0 i), fun i => ?_,
    fun i => real_of_cmp _ _ i (Host.reduce_andi_all _ _ _ _ _ h2 i), fun i => real_of_cmp _ _ i (Host.reduce_andi_all _ _ _ _ _ h3 i),
    fun i => real_of_cmp _ _ i (Host.reduce_andi_all _ _ _ _ _ h4 i), fun i => real_of_cmp _ _ i (Host.reduce_andi_all _ _ _ _ _ h5 i),
    fun i => real_of_cmp _ _ i (Host.reduce_andi_all _ _ _ _ _ h6 i), fun i => real_of_cmp _ _ i (Host.reduce_andi_all _ _ _ _ _ h7 i),
    fun i => real_of_cmp _ _ i (Host.reduce_andi_all _ _ _ _ _ h8 i)⟩
  have e := eq_of_cmp _ _ i (Host.reduce_andi_all _ _ _ _ _ h1 i)
  refine Eq.trans ?_ e
  pointwise [fn_clip, fn_round]
  simp only [id, constant, bound_top, bound_zero, word_steps, quant]

/-- An adjacency that the quantiser keeps is an array of reals. -/
theorem real_of_kept (a : EReal) (h : quant a = a) : ((a.toReal : ℝ) : EReal) = a := by
  rw [← h]; exact quant_real _

end Cert.Pre_stepped
end
-- ==== Proof.Claims.lean ====
/-
  The claims that are not about values: the frames, each from its program's run, and that the idealized kernel is
  the kernel with its three rounded quotients named.
-/
module

public import proofs.«01_k».proof.Defs
public import proofs.«01_k».proof.Proof.RunMain
public import proofs.«01_k».proof.Proof.K.RunMain
public import proofs.«01_k».proof.Proof.Fin
public import proofs.«01_k».proof.Proof.Stepped
public import proofs.«01_k».proof.Proof.Gen.PlainIdeal
public import proofs.«01_k».proof.Proof.Gen.PlainIdeal.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof.Claims

open Idealize.ShloMosaic Idealize.SL.Sem

/-- The kernel as it is printed runs and leaves its arguments and semaphores as they were. -/
theorem frame_p : Cert.quiescent_Kernel := fun m ρ _ => Cert.Kernel.Hand.frame_run (F := Bits) m ρ

/-- So does the kernel over the extended reals. -/
theorem frame_pi : Cert.quiescent_KernelIdeal := fun m ρ _ => Cert.KernelIdeal.Hand.frame_run (F := Ideal) m ρ

/-- … and in particular where the precondition holds. -/
theorem frame_pi_finite : Cert.quiescent_KernelIdeal_pre_finite (hPre_finite := Cert.Pre_finite.facts) := fun m ρ _ =>
  Cert.KernelIdeal.Hand.frame_run (F := Ideal) m ρ

/-- So does the reference: it has no semaphores, so they all read zero at the end. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ri_finite : Cert.quiescent_ReferenceIdeal_pre_finite (hPre_finite := Cert.Pre_finite.facts) := fun m ρ _ =>
  frame_ri m ρ trivial

theorem frame_pi_stepped : Cert.quiescent_KernelIdeal_pre_stepped (hPre_stepped := Cert.Pre_stepped.facts) := fun m ρ _ =>
  Cert.KernelIdeal.Hand.frame_run (F := Ideal) m ρ

/-- So does reference.py as it stands. -/
theorem frame_si : Cert.quiescent_PlainIdeal := fun m ρ _ =>
  (θ_run Cert.PlainIdeal.defs _ _).mono
    (fun r h => ⟨fun c => (h c).2, Idealize.ShloMosaic.sem_eq_zero_of_no_sems (by decide) r.2⟩)
    (Cert.PlainIdeal.Value.run (F := Ideal) m ρ)

theorem frame_si_stepped : Cert.quiescent_PlainIdeal_pre_stepped (hPre_stepped := Cert.Pre_stepped.facts) := fun m ρ _ =>
  frame_si m ρ trivial

/-- The three named constants stand for the quotients the printed words round. -/
theorem preserves : Cert.preserves_Kernel_KernelIdeal :=
  ⟨IdealRules.named_const.statement Cert.KernelIdeal.κ "inv_n" .f32 0x38D1B717#32 ((1 / 10000 : ℝ) : EReal) rfl,
    IdealRules.named_const.statement Cert.KernelIdeal.κ "step" .f32 0x3B808081#32 ((1 / 255 : ℝ) : EReal) rfl,
    IdealRules.named_const.statement Cert.KernelIdeal.κ "shift" .f32 0x3F008081#32 ((128 / 255 : ℝ) : EReal) rfl⟩

end Cert.Proof.Claims

end
-- ==== Proof.Layers.lean ====
/-
  The two layers over the extended reals, as the kernel computes them and as the reference does, and that they agree where
  the arguments are reals (the last shift may be infinite).
-/
module

public import proofs.«01_k».proof.Proof.Quant

@[expose] public section

noncomputable section

namespace Cert.Gcn

open Idealize.ShloMosaic Cert.Consts

/-- The product of two matrices. -/
def mm {a n b : ℕ} (P : Fin a → Fin n → EReal) (Q : Fin n → Fin b → EReal) (i : Fin a) (j : Fin b) : EReal := ∑ k, P i k * Q k j

theorem mm_coe {a n b : ℕ} (p : Fin a → Fin n → ℝ) (q : Fin n → Fin b → ℝ) (i : Fin a) (j : Fin b) :
    mm (fun i k => (p i k : EReal)) (fun k j => (q k j : EReal)) i j = ((∑ k, p i k * q k j : ℝ) : EReal) := by
  unfold mm
  simp only [coe_sum, EReal.coe_mul]

/-- The kernel's normalisation of every column of a matrix. -/
def kNorm {b : ℕ} (H : Fin 10000 → Fin b → EReal) (g e : Fin b → EReal) (i : Fin 10000) (j : Fin b) : EReal :=
  kbn (∑ k, H k j) (∑ k, H k j * H k j) (H i j) (g j) (e j)

/-- The reference's normalisation of every column of a matrix and a bias. -/
def rNorm {b : ℕ} (H : Fin 10000 → Fin b → EReal) (β g e : Fin b → EReal) (i : Fin 10000) (j : Fin b) : EReal :=
  rbn (fun k => H k j + β j) i (g j) (e j)

/-- The kernel's second product: the signed bytes times the features, put back by the two factors. -/
def kMix (A : Fin 10000 → Fin 10000 → EReal) (S : Fin 10000 → Fin 64 → EReal) (i : Fin 10000) (j : Fin 64) : EReal :=
  (∑ k, (((byte (A i k)).toInt : ℝ) : EReal) * S k j) * ((1 / 255 : ℝ) : EReal) + (∑ k, S k j) * ((128 / 255 : ℝ) : EReal)

/-- The features of the second layer, as the kernel computes them. -/
def kFeat (X : Fin 10000 → Fin 128 → EReal) (A : Fin 10000 → Fin 10000 → EReal) (W : Fin 128 → Fin 128 → EReal)
    (g e : Fin 128 → EReal) (W' : Fin 128 → Fin 64 → EReal) : Fin 10000 → Fin 64 → EReal :=
  mm (kNorm (mm A (mm X W)) g e) W'

/-- The features of the second layer, as the reference computes them. -/
def rFeat (X : Fin 10000 → Fin 128 → EReal) (A : Fin 10000 → Fin 10000 → EReal) (W : Fin 128 → Fin 128 → EReal)
    (β g e : Fin 128 → EReal) (W' : Fin 128 → Fin 64 → EReal) : Fin 10000 → Fin 64 → EReal :=
  mm (rNorm (mm A (mm X W)) β g e) W'

/-- The normalisations of a matrix of reals agree. -/
theorem kNorm_eq {b : ℕ} (h : Fin 10000 → Fin b → ℝ) (β γ : Fin b → ℝ) (e : Fin b → EReal) :
    kNorm (fun i j => (h i j : EReal)) (fun j => (γ j : EReal)) e
      = rNorm (fun i j => (h i j : EReal)) (fun j => (β j : EReal)) (fun j => (γ j : EReal)) e := by
  funext i j
  exact kbn_eq_rbn (fun k => h k j) i (β j) (γ j) (e j)

/-- The normalisation of a matrix of reals with real shifts is a matrix of reals. -/
theorem rNorm_real {b : ℕ} (h : Fin 10000 → Fin b → ℝ) (β γ e : Fin b → ℝ) :
    ∃ t : Fin 10000 → Fin b → ℝ, rNorm (fun i j => (h i j : EReal)) (fun j => (β j : EReal)) (fun j => (γ j : EReal)) (fun j => (e j : EReal))
      = fun i j => (t i j : EReal) := by
  refine ⟨fun i j => max (((h i j + β j) - mu (fun k => h k j + β j)) * (1 / Real.sqrt (sg (fun k => h k j + β j) + eps)) * γ j + e j) 0, ?_⟩
  funext i j
  unfold rNorm
  rw [← rbn_real (fun k => h k j + β j) i (γ j) (e j)]
  simp only [EReal.coe_add]

/-- The second product of a matrix of reals agrees with the quantised one, and is a matrix of reals. -/
theorem kMix_eq (a : Fin 10000 → Fin 10000 → ℝ) (s : Fin 10000 → Fin 64 → ℝ) :
    kMix (fun i k => (a i k : EReal)) (fun k j => (s k j : EReal)) = mm (fun i k => quant (a i k : EReal)) (fun k j => (s k j : EReal)) := by
  funext i j
  simp only [kMix, byte_coe, quant_coe, mm]
  simp only [← EReal.coe_mul, ← coe_sum, ← EReal.coe_add]
  refine congrArg Real.toEReal ?_
  rw [Finset.sum_mul, Finset.sum_mul, ← Finset.sum_add_distrib]
  exact Finset.sum_congr rfl fun k _ => by ring

/-- The kernel's result is the reference's. -/
theorem layers_eq (x : Fin 10000 → Fin 128 → ℝ) (a : Fin 10000 → Fin 10000 → ℝ) (w : Fin 128 → Fin 128 → ℝ) (β γ e : Fin 128 → ℝ)
    (w' : Fin 128 → Fin 64 → ℝ) (β' γ' : Fin 64 → ℝ) (e' : Fin 64 → EReal) :
    kNorm (kMix (fun i k => (a i k : EReal)) (kFeat (fun i k => (x i k : EReal)) (fun i k => (a i k : EReal)) (fun i k => (w i k : EReal))
        (fun j => (γ j : EReal)) (fun j => (e j : EReal)) (fun i k => (w' i k : EReal)))) (fun j => (γ' j : EReal)) e'
      = rNorm (mm (fun i k => quant (a i k : EReal)) (rFeat (fun i k => (x i k : EReal)) (fun i k => (a i k : EReal)) (fun i k => (w i k : EReal))
        (fun j => (β j : EReal)) (fun j => (γ j : EReal)) (fun j => (e j : EReal)) (fun i k => (w' i k : EReal))))
        (fun j => (β' j : EReal)) (fun j => (γ' j : EReal)) e' := by
  have h1 : mm (fun i k => (a i k : EReal)) (mm (fun i k => (x i k : EReal)) (fun i k => (w i k : EReal)))
      = fun i j => ((∑ k, a i k * ∑ l, x k l * w l j : ℝ) : EReal) := by
    have h0 : mm (fun i k => (x i k : EReal)) (fun i k => (w i k : EReal)) = fun i j => ((∑ l, x i l * w l j : ℝ) : EReal) :=
      funext fun i => funext fun j => mm_coe x w i j
    rw [h0]
    exact funext fun i => funext fun j => mm_coe a _ i j
  unfold kFeat rFeat
  rw [h1, kNorm_eq _ β γ]
  obtain ⟨t, ht⟩ := rNorm_real (fun i j => ∑ k, a i k * ∑ l, x k l * w l j) β γ e
  rw [ht]
  have h2 : mm (fun i k => (t i k : EReal)) (fun i k => (w' i k : EReal)) = fun i j => ((∑ l, t i l * w' l j : ℝ) : EReal) :=
    funext fun i => funext fun j => mm_coe t w' i j
  rw [h2, kMix_eq]
  have h3 : mm (fun i k => quant (a i k : EReal)) (fun i j => ((∑ l, t i l * w' l j : ℝ) : EReal))
      = fun i j => ((∑ k, (((level (a i k) : ℤ) : ℝ) * (1 / 255) + 128 / 255) * ∑ l, t k l * w' l j : ℝ) : EReal) := by
    funext i j
    simp only [quant_coe]
    exact mm_coe (fun i k => ((level (a i k) : ℤ) : ℝ) * (1 / 255) + 128 / 255) _ i j
  rw [h3]
  exact kNorm_eq _ β' γ' e'

end Cert.Gcn

end
-- ==== Proof.Pay.lean ====
/-
  What the kernel's two bodies store, over the extended reals, read at an index.
-/
module

public import proofs.«01_k».proof.Proof.Gen.KernelIdeal.Skeleton
public import proofs.«01_k».proof.Proof.Layers
public import Idealize.ShloMosaic.Lib.Pipeline.ValueKit

@[expose] public section

set_option maxRecDepth 16384

noncomputable section

namespace Cert.KernelIdeal.Pay

open Cert.KernelIdeal Cert.KernelIdeal.Gen
open Idealize.ShloMosaic
open Idealize.ShloMosaic.TcCoe Idealize.ShloMosaic.Tactic
open Cert.Gcn Cert.Consts

/-- The three named constants. -/
theorem named_n : (Named.named κ "inv_n" 953267991#32 : Ideal .f32) = ((1 / 10000 : ℝ) : EReal) := rfl
theorem named_step : (Named.named κ "step" 998277249#32 : Ideal .f32) = ((1 / 255 : ℝ) : EReal) := rfl
theorem named_shift : (Named.named κ "shift" 1056997505#32 : Ideal .f32) = ((128 / 255 : ℝ) : EReal) := rfl

/-! ### Pass A -/

theorem a4_at (x : Vec Ideal S10000x128 .f32) (w : Vec Ideal S128x128 .f32) (j : S10000x128.Idx) :
    k0_pay4 x w j = ∑ k : Fin 128, (x (ix2 (j 0) k) * w (ix2 k (j 1)) : EReal) := by
  pointwise [k0_pay4]
theorem a7_at (a : Vec Ideal S400x10000 .f32) (s : Vec Ideal S10000x128 .bf16) (j : S400x128.Idx) :
    k0_pay7 a s j = ∑ k : Fin 10000, (a (ix2 (j 0) k) * s (ix2 k (j 1)) : EReal) := by
  pointwise [k0_pay7]
theorem a8_at (a : Vec Ideal S400x10000 .f32) (s : Vec Ideal S10000x128 .bf16) (j : S400x128.Idx) :
    k0_pay8 a s j = k0_pay7 a s j := by
  pointwise [k0_pay8]
theorem a5_at (j : S1x128.Idx) : (k0_pay5 (F := Ideal)) j = (0 : EReal) := by
  pointwise [k0_pay5]
theorem a6_at (j : S1x128.Idx) : (k0_pay6 (F := Ideal)) j = (0 : EReal) := by
  pointwise [k0_pay6]
theorem a9_at (a : Vec Ideal S400x10000 .f32) (s : Vec Ideal S10000x128 .bf16) (v : Vec Ideal S1x128 .f32) (j : S1x128.Idx) :
    k0_pay9 a s v j = v j + ∑ r : Fin 400, (k0_pay7 a s (ix2 r (j 1)) : EReal) := by
  pointwise [k0_pay9]
theorem a10_at (a : Vec Ideal S400x10000 .f32) (s : Vec Ideal S10000x128 .bf16) (v : Vec Ideal S1x128 .f32) (j : S1x128.Idx) :
    k0_pay10 a s v j = v j + ∑ r : Fin 400, (k0_pay7 a s (ix2 r (j 1)) * k0_pay7 a s (ix2 r (j 1)) : EReal) := by
  pointwise [k0_pay10]
theorem a11_at (a : Vec Ideal S400x10000 .f32) (j : S400x10000.Idx) : k0_pay11 a j = byte (a j) := by
  pointwise [k0_pay11]
  rw [word_steps, word_half]
  rfl
theorem a1_at (u v g b : Vec Ideal S1x128 .f32) (h : Vec Ideal S10000x128 .f32) (w : Vec Ideal S128x64 .f32) (j : S10000x64.Idx) :
    k0_pay1 u v g b h w j
      = ∑ k : Fin 128, (kbn (u (ix2 0 k)) (v (ix2 0 k)) (h (ix2 (j 0) k)) (g (ix2 0 k)) (b (ix2 0 k)) * w (ix2 k (j 1)) : EReal) := by
  pointwise [k0_pay1]
  simp only [kbn, named_n, word_eps]
theorem a2_at (u v g b : Vec Ideal S1x128 .f32) (h : Vec Ideal S10000x128 .f32) (w : Vec Ideal S128x64 .f32) (j : S1x64.Idx) :
    k0_pay2 u v g b h w j = ∑ r : Fin 10000, (k0_pay1 u v g b h w (ix2 r (j 1)) : EReal) := by
  pointwise [k0_pay2]
theorem a3_at (u v g b : Vec Ideal S1x128 .f32) (h : Vec Ideal S10000x128 .f32) (w : Vec Ideal S128x64 .f32) (j : S10000x64.Idx) :
    k0_pay3 u v g b h w j = k0_pay1 u v g b h w j := by
  pointwise [k0_pay3]

/-! ### Pass B -/

theorem b5_at (q : Vec Ideal S1000x10000 .i8) (s : Vec Ideal S10000x64 .bf16) (c : Vec Ideal S1x64 .f32) (j : S1000x64.Idx) :
    k1_pay5 q s c j = (∑ k : Fin 10000, ((((q (ix2 (j 0) k) : BitVec 8).toInt : ℝ) : EReal) * s (ix2 k (j 1)) : EReal)) * ((1 / 255 : ℝ) : EReal)
      + c (ix2 0 (j 1)) * ((128 / 255 : ℝ) : EReal) := by
  pointwise [k1_pay5]
  simp only [named_step, named_shift]
  rfl
theorem b6_at (q : Vec Ideal S1000x10000 .i8) (s : Vec Ideal S10000x64 .bf16) (c : Vec Ideal S1x64 .f32) (j : S1000x64.Idx) :
    k1_pay6 q s c j = k1_pay5 q s c j := by
  pointwise [k1_pay6]
theorem b3_at (j : S1x64.Idx) : (k1_pay3 (F := Ideal)) j = (0 : EReal) := by
  pointwise [k1_pay3]
theorem b4_at (j : S1x64.Idx) : (k1_pay4 (F := Ideal)) j = (0 : EReal) := by
  pointwise [k1_pay4]
theorem b7_at (q : Vec Ideal S1000x10000 .i8) (s : Vec Ideal S10000x64 .bf16) (c v : Vec Ideal S1x64 .f32) (j : S1x64.Idx) :
    k1_pay7 q s c v j = v j + ∑ r : Fin 1000, (k1_pay5 q s c (ix2 r (j 1)) : EReal) := by
  pointwise [k1_pay7]
theorem b8_at (q : Vec Ideal S1000x10000 .i8) (s : Vec Ideal S10000x64 .bf16) (c v : Vec Ideal S1x64 .f32) (j : S1x64.Idx) :
    k1_pay1 (k1_pay8 q s c v) j = v j + ∑ r : Fin 1000, (k1_pay5 q s c (ix2 r (j 1)) * k1_pay5 q s c (ix2 r (j 1)) : EReal) := by
  pointwise [k1_pay1, k1_pay8]
theorem b2_at (u v g b : Vec Ideal S1x64 .f32) (h : Vec Ideal S10000x64 .f32) (j : S10000x64.Idx) :
    k1_pay2 u v g b h j = kbn (u (ix2 0 (j 1))) (v (ix2 0 (j 1))) (h j) (g (ix2 0 (j 1))) (b (ix2 0 (j 1))) := by
  pointwise [k1_pay2]
  simp only [kbn, named_n, word_eps]

end Cert.KernelIdeal.Pay
end
-- ==== Proof.ValA.lean ====
/-
  What pass A leaves, over the extended reals: the first product, its column sums, the features of the second layer and
  their column sums, and the adjacency rounded to signed bytes.
-/
module

public import proofs.«01_k».proof.Proof.Pay
public import proofs.«01_k».proof.Proof.RegA

@[expose] public section

set_option maxRecDepth 16384

noncomputable section

namespace Cert.KernelIdeal.Hand

open Cert.KernelIdeal Cert.KernelIdeal.Gen Cert.KernelIdeal.Pay
open Idealize.ShloMosaic
open Idealize.ShloMosaic.TcCoe Idealize.ShloMosaic.Tactic
open Idealize.ShloMosaic.Pipeline (Dat Cfg Window)
open Cert.Gcn

variable (V : Vals Ideal) (c : Dev nD)

/-- The arrays pass A is entered with, as matrices and rows. -/
def xM : Fin 10000 → Fin 128 → EReal := fun i k => (V c main_arg0 : Vec Ideal S10000x128 .f32) (ix2 i k)
def aM : Fin 10000 → Fin 10000 → EReal := fun i k => (V c main_arg1 : Vec Ideal S10000x10000 .f32) (ix2 i k)
def wM : Fin 128 → Fin 128 → EReal := fun i k => (V c main_arg2 : Vec Ideal S128x128 .f32) (ix2 i k)
def vM : Fin 128 → Fin 64 → EReal := fun i k => (V c main_arg6 : Vec Ideal S128x64 .f32) (ix2 i k)
def gM : Fin 128 → EReal := fun k => (V c main_call0_v0 : Vec Ideal S1x128 .f32) (ix2 0 k)
def eM : Fin 128 → EReal := fun k => (V c main_call0_v1 : Vec Ideal S1x128 .f32) (ix2 0 k)

theorem idxA_5 : ∀ t : Fin grid0.N, win0_5.index t = ![t.val, 0] := by decide +kernel

/-- An entry of the adjacency rows of a point. -/
theorem adjA_at (n : ℕ) (r : Fin 400) (k : Fin 10000) (i : Fin 10000) (h : i.val = (n % 25) * 400 + r.val) :
    adjA V c n (ix2 r k) = aM V c i k := by
  have e : (ptA n).val = n % 25 := rfl
  unfold adjA aM
  blk_ext! [blkA, idxA_5 (ptA n), e]

/-- `x @ W1` at an entry. -/
theorem S1_at (i : Fin 10000) (l : Fin 128) : S1 V c (ix2 i l) = mm (xM V c) (wM V c) i l := by
  unfold S1
  rw [a4_at]
  rfl

/-- The first product, from the rows of a point. -/
theorem row_at (n : ℕ) (r : Fin 400) (l : Fin 128) (i : Fin 10000) (h : i.val = (n % 25) * 400 + r.val) :
    k0_pay7 (adjA V c n) (S1 V c) (ix2 r l) = mm (aM V c) (mm (xM V c) (wM V c)) i l := by
  rw [a7_at]
  unfold mm
  refine Fin.sum_fin_congr fun k => ?_
  show adjA V c n (ix2 r k) * S1 V c (ix2 k l) = _
  rw [adjA_at V c n r k i h, S1_at]
  rfl

/-- The first product at an entry. -/
theorem H1_at (i : Fin 10000) (l : Fin 128) : H1 V c (ix2 i l) = mm (aM V c) (mm (xM V c) (wM V c)) i l := by
  unfold H1
  rw [a8_at]
  have hi := i.isLt
  exact row_at V c (i.val / 400) ⟨i.val % 400, Nat.mod_lt _ (by decide)⟩ l i (by
    show i.val = (i.val / 400) % 25 * 400 + i.val % 400
    omega)

/-- The column sums before a point, and those of squares. -/
theorem SUMA_at (n : ℕ) (l : Fin 128) :
    SUMA V c n (ix2 0 l) = ∑ t : Fin n, ∑ r : Fin 400, (k0_pay7 (adjA V c t.val) (S1 V c) (ix2 r l) : EReal) := by
  induction n with
  | zero => rw [SUMA, a5_at]; rfl
  | succ n ih =>
    rw [SUMA, a9_at, ih]
    exact (Fin.sum_univ_castSucc (fun t : Fin (n + 1) => ∑ r : Fin 400, (k0_pay7 (adjA V c t.val) (S1 V c) (ix2 r l) : EReal))).symm
theorem SQA_at (n : ℕ) (l : Fin 128) :
    SQA V c n (ix2 0 l) = ∑ t : Fin n, ∑ r : Fin 400,
      (k0_pay7 (adjA V c t.val) (S1 V c) (ix2 r l) * k0_pay7 (adjA V c t.val) (S1 V c) (ix2 r l) : EReal) := by
  induction n with
  | zero => rw [SQA, a6_at]; rfl
  | succ n ih =>
    rw [SQA, a10_at, ih]
    exact (Fin.sum_univ_castSucc (fun t : Fin (n + 1) => ∑ r : Fin 400,
      (k0_pay7 (adjA V c t.val) (S1 V c) (ix2 r l) * k0_pay7 (adjA V c t.val) (S1 V c) (ix2 r l) : EReal))).symm

/-- After the last point they are over all the rows. -/
theorem SUMA_all (l : Fin 128) : SUMA V c 25 (ix2 0 l) = ∑ i, mm (aM V c) (mm (xM V c) (wM V c)) i l := by
  rw [SUMA_at]
  refine Fin.sum_mul_add_congr (S := 25) (n := 400) (fun t r hb => ?_) (by decide)
  exact row_at V c t.val r l ⟨t.val * 400 + r.val, hb⟩ (by
    have ht := t.isLt
    show t.val * 400 + r.val = t.val % 25 * 400 + r.val
    omega)
theorem SQA_all (l : Fin 128) :
    SQA V c 25 (ix2 0 l) = ∑ i, mm (aM V c) (mm (xM V c) (wM V c)) i l * mm (aM V c) (mm (xM V c) (wM V c)) i l := by
  rw [SQA_at]
  refine Fin.sum_mul_add_congr (S := 25) (n := 400) (fun t r hb => ?_) (by decide)
  have e := row_at V c t.val r l ⟨t.val * 400 + r.val, hb⟩ (by
    have ht := t.isLt
    show t.val * 400 + r.val = t.val % 25 * 400 + r.val
    omega)
  rw [e]

/-- The features of the second layer at an entry. -/
theorem S2_at (i : Fin 10000) (l : Fin 64) :
    S2 V c (ix2 i l) = kFeat (xM V c) (aM V c) (wM V c) (gM V c) (eM V c) (vM V c) i l := by
  unfold S2
  rw [a3_at, a1_at]
  unfold kFeat
  rw [mm]
  refine Fin.sum_fin_congr fun k => ?_
  show kbn (SUMA V c 25 (ix2 0 k)) (SQA V c 25 (ix2 0 k)) (H1 V c (ix2 i k)) _ _ * _ = _
  rw [SUMA_all, SQA_all, H1_at]
  rfl

/-- Their column sums. -/
theorem CS_at (l : Fin 64) :
    CS V c (ix2 0 l) = ∑ i, kFeat (xM V c) (aM V c) (wM V c) (gM V c) (eM V c) (vM V c) i l := by
  unfold CS
  rw [a2_at]
  refine Fin.sum_fin_congr fun i => ?_
  rw [← S2_at]
  unfold S2
  rw [a3_at]
  rfl

/-- The last point of the grid. -/
def endA : Fin cfg0.N := ptA 24

theorem idxA_6 : ∀ t : Fin grid0.N, win0_6.index t = ![t.val, 0] := by decide +kernel
theorem idxA_7 : ∀ t : Fin grid0.N, win0_7.index t = ![0, 0] := by decide +kernel
theorem idxA_8 : ∀ t : Fin grid0.N, win0_8.index t = ![0, 0] := by decide +kernel

/-- The rounded adjacency that pass A leaves. -/
theorem leaves_q : (datA V c).arrAt 6 cfg0.N = (fun y : S10000x10000.Idx => byte (aM V c (y 0) (y 1)) : Vec Ideal S10000x10000 .i8) := by
  refine (datA V c).arrAt_eq_of_covers 6 _ (by decide +kernel) fun t hf y => ?_
  blk_simp
  rw [afterA_6]
  refine (a11_at _ _).trans (congrArg byte ?_)
  rw [adjA, ptA_self]
  unfold aM
  blk_ext! [blkA, idxA_5 t, idxA_6 t]

theorem leaves_s2 : (datA V c).arrAt 7 cfg0.N = S2 V c := by
  refine (datA V c).arrAt_eq_of_after_last 7 endA (by decide +kernel) _ fun j => ?_
  blk_simp
  rw [afterA_7]

theorem leaves_cs : (datA V c).arrAt 8 cfg0.N = CS V c := by
  refine (datA V c).arrAt_eq_of_after_last 8 endA (by decide +kernel) _ fun j => ?_
  blk_simp
  rw [afterA_8]

end Cert.KernelIdeal.Hand
end
-- ==== Proof.ValB.lean ====
/-
  What pass B leaves, over the extended reals: the second product, its column sums and the kernel's result.
-/
module

public import proofs.«01_k».proof.Proof.Pay
public import proofs.«01_k».proof.Proof.RegB

@[expose] public section

set_option maxRecDepth 16384

noncomputable section

namespace Cert.KernelIdeal.Hand

open Cert.KernelIdeal Cert.KernelIdeal.Gen Cert.KernelIdeal.Pay
open Idealize.ShloMosaic
open Idealize.ShloMosaic.TcCoe Idealize.ShloMosaic.Tactic
open Idealize.ShloMosaic.Pipeline (Dat Cfg Window)
open Cert.Gcn

variable (V : Vals Ideal) (c : Dev nD)

theorem idxB_4 : ∀ t : Fin grid1.N, win1_4.index t = ![t.val, 0] := by decide +kernel

/-- An entry of the byte rows of a point. -/
theorem qB_at (n : ℕ) (r : Fin 1000) (k : Fin 10000) (i : Fin 10000) (h : i.val = (n % 10) * 1000 + r.val) :
    qB V c n (ix2 r k) = (V c main_call0_v2_0 : Vec Ideal S10000x10000 .i8) (ix2 i k) := by
  have e : (ptB n).val = n % 10 := rfl
  unfold qB
  blk_ext! [blkB, idxB_4 (ptB n), e]

section Entered

/- What pass A left: the bytes of a matrix, the features and their column sums. -/
variable (A : Fin 10000 → Fin 10000 → EReal) (S : Fin 10000 → Fin 64 → EReal)
  (hq : ∀ i k, (V c main_call0_v2_0 : Vec Ideal S10000x10000 .i8) (ix2 i k) = byte (A i k))
  (hs : ∀ i l, (V c main_call0_v2_1 : Vec Ideal S10000x64 .bf16) (ix2 i l) = S i l)
  (hc : ∀ l, (V c main_call0_v2_2 : Vec Ideal S1x64 .f32) (ix2 0 l) = ∑ i, S i l)
include hq hs hc

/-- The second product, from the rows of a point. -/
theorem rowB_at (n : ℕ) (r : Fin 1000) (l : Fin 64) (i : Fin 10000) (h : i.val = (n % 10) * 1000 + r.val) :
    k1_pay5 (qB V c n) (V c main_call0_v2_1) (V c main_call0_v2_2) (ix2 r l) = kMix A S i l := by
  rw [b5_at]
  unfold kMix
  have key : ∀ z z' u u' : EReal, z = z' → u = u' → z * ((1 / 255 : ℝ) : EReal) + u * ((128 / 255 : ℝ) : EReal)
      = z' * ((1 / 255 : ℝ) : EReal) + u' * ((128 / 255 : ℝ) : EReal) := fun _ _ _ _ h h' => by rw [h, h']
  refine key _ _ _ _ ?_ (hc l)
  refine Fin.sum_fin_congr fun k => ?_
  have e : ∀ (b b' : BitVec 8) (z z' : EReal), b = b' → z = z' → ((b.toInt : ℝ) : EReal) * z = ((b'.toInt : ℝ) : EReal) * z' :=
    fun _ _ _ _ h h' => by rw [h, h']
  exact e _ _ _ _ ((qB_at V c n r k i h).trans (hq i k)) (hs k l)

/-- The second product at an entry. -/
theorem H2_at (i : Fin 10000) (l : Fin 64) : H2 V c (ix2 i l) = kMix A S i l := by
  unfold H2
  rw [b6_at]
  have hi := i.isLt
  exact rowB_at V c A S hq hs hc (i.val / 1000) ⟨i.val % 1000, Nat.mod_lt _ (by decide)⟩ l i (by
    show i.val = (i.val / 1000) % 10 * 1000 + i.val % 1000
    omega)

omit hq hs hc in
/-- The column sums before a point, and those of squares. -/
theorem SUMB_at (n : ℕ) (l : Fin 64) :
    SUMB V c n (ix2 0 l) = ∑ t : Fin n, ∑ r : Fin 1000, (k1_pay5 (qB V c t.val) (V c main_call0_v2_1) (V c main_call0_v2_2) (ix2 r l) : EReal) := by
  induction n with
  | zero => rw [SUMB, b3_at]; rfl
  | succ n ih =>
    rw [SUMB, b7_at, ih]
    exact (Fin.sum_univ_castSucc (fun t : Fin (n + 1) => ∑ r : Fin 1000, (k1_pay5 (qB V c t.val) (V c main_call0_v2_1) (V c main_call0_v2_2) (ix2 r l) : EReal))).symm
omit hq hs hc in
theorem SQB_at (n : ℕ) (l : Fin 64) :
    SQB V c n (ix2 0 l) = ∑ t : Fin n, ∑ r : Fin 1000,
      (k1_pay5 (qB V c t.val) (V c main_call0_v2_1) (V c main_call0_v2_2) (ix2 r l)
        * k1_pay5 (qB V c t.val) (V c main_call0_v2_1) (V c main_call0_v2_2) (ix2 r l) : EReal) := by
  induction n with
  | zero => rw [SQB, b4_at]; rfl
  | succ n ih =>
    rw [SQB, b8_at, ih]
    exact (Fin.sum_univ_castSucc (fun t : Fin (n + 1) => ∑ r : Fin 1000,
      (k1_pay5 (qB V c t.val) (V c main_call0_v2_1) (V c main_call0_v2_2) (ix2 r l)
        * k1_pay5 (qB V c t.val) (V c main_call0_v2_1) (V c main_call0_v2_2) (ix2 r l) : EReal))).symm

/-- After the last point they are over all the rows. -/
theorem SUMB_all (l : Fin 64) : SUMB V c 10 (ix2 0 l) = ∑ i, kMix A S i l := by
  rw [SUMB_at]
  refine Fin.sum_mul_add_congr (S := 10) (n := 1000) (fun t r hb => ?_) (by decide)
  exact rowB_at V c A S hq hs hc t.val r l ⟨t.val * 1000 + r.val, hb⟩ (by
    have ht := t.isLt
    show t.val * 1000 + r.val = t.val % 10 * 1000 + r.val
    omega)
theorem SQB_all (l : Fin 64) : SQB V c 10 (ix2 0 l) = ∑ i, kMix A S i l * kMix A S i l := by
  rw [SQB_at]
  refine Fin.sum_mul_add_congr (S := 10) (n := 1000) (fun t r hb => ?_) (by decide)
  have e := rowB_at V c A S hq hs hc t.val r l ⟨t.val * 1000 + r.val, hb⟩ (by
    have ht := t.isLt
    show t.val * 1000 + r.val = t.val % 10 * 1000 + r.val
    omega)
  rw [e]

/-- The kernel's result at an entry. -/
theorem OUT_at (g e : Fin 64 → EReal) (hg : ∀ l, (V c main_call0_v3 : Vec Ideal S1x64 .f32) (ix2 0 l) = g l)
    (he : ∀ l, (V c main_call0_v4 : Vec Ideal S1x64 .f32) (ix2 0 l) = e l) (i : Fin 10000) (l : Fin 64) :
    OUT V c (ix2 i l) = kNorm (kMix A S) g e i l := by
  unfold OUT
  rw [b2_at]
  show kbn (SUMB V c 10 (ix2 0 l)) (SQB V c 10 (ix2 0 l)) (H2 V c (ix2 i l)) ((V c main_call0_v3 : Vec Ideal S1x64 .f32) (ix2 0 l))
    ((V c main_call0_v4 : Vec Ideal S1x64 .f32) (ix2 0 l)) = _
  rw [SUMB_all V c A S hq hs hc, SQB_all V c A S hq hs hc, H2_at V c A S hq hs hc, hg, he]
  rfl

end Entered

/-- The last point of the grid. -/
def endB : Fin cfg1.N := ptB 9

theorem leaves_out : (datB V c).arrAt 5 cfg1.N = OUT V c := by
  refine (datB V c).arrAt_eq_of_after_last 5 endB (by decide +kernel) _ fun j => ?_
  blk_simp
  rw [afterB_5]

end Cert.KernelIdeal.Hand
end
-- ==== Proof.Val.lean ====
/-
  The kernel's result over the extended reals, read at an index, as a function of the arguments.
-/
module

public import proofs.«01_k».proof.Proof.ValA
public import proofs.«01_k».proof.Proof.ValB
public import proofs.«01_k».proof.Proof.Run

@[expose] public section

set_option maxRecDepth 16384

noncomputable section

namespace Cert.KernelIdeal.Hand

open Cert.KernelIdeal Cert.KernelIdeal.Gen Cert.KernelIdeal.Pay
open Idealize.ShloMosaic
open Idealize.ShloMosaic.TcCoe Idealize.ShloMosaic.Tactic
open Idealize.ShloMosaic.Pipeline (Dat Cfg Window)
open Cert.Gcn

variable (m : (ℓ : Loc nD τ sig) → Buf (Elt Ideal) ℓ) (c : Dev nD)

/-- Pass A is entered with the arguments as launched … -/
theorem VA_of (r : Ref sig .tc) (h : r ∉ hostOps0_W) : VA m c r = m ((c.tc : Thread nD τ).loc r) :=
  StableHlo.after_of_writes_sub hostOps0 _ hostOps0_writes h

/-- … and with the first scale and shift as one row each. -/
theorem VA_g (k : Fin 128) : (VA m c main_call0_v0 : Vec Ideal S1x128 .f32) (ix2 0 k) = m ((c.tc : Thread nD τ).loc main_arg4) (ix1 k) := by
  have e : VA m c main_call0_v0 = shapeCast S1x128 (m ((c.tc : Thread nD τ).loc main_arg4) : Vec Ideal S128 .f32) shapeCasts_S128_S1x128 := by
    unfold VA
    rfl
  rw [e]
  pointwise
theorem VA_e (k : Fin 128) : (VA m c main_call0_v1 : Vec Ideal S1x128 .f32) (ix2 0 k) = m ((c.tc : Thread nD τ).loc main_arg5) (ix1 k) := by
  have e : VA m c main_call0_v1 = shapeCast S1x128 (m ((c.tc : Thread nD τ).loc main_arg5) : Vec Ideal S128 .f32) shapeCasts_S128_S1x128 := by
    unfold VA
    rfl
  rw [e]
  pointwise

/-- Pass B is entered with what pass A left … -/
theorem VB_of (r : Ref sig .tc) (h : r ∉ hostOps1_W) : VB m c r = leftA m c r :=
  StableHlo.after_of_writes_sub hostOps1 _ hostOps1_writes h

/-- … and with the second scale and shift as one row each. -/
theorem VB_g (k : Fin 64) : (VB m c main_call0_v3 : Vec Ideal S1x64 .f32) (ix2 0 k) = m ((c.tc : Thread nD τ).loc main_arg8) (ix1 k) := by
  have e : VB m c main_call0_v3 = shapeCast S1x64 (leftA m c main_arg8 : Vec Ideal S64 .f32) shapeCasts_S64_S1x64 := by
    unfold VB
    rfl
  rw [e, leftA_of m c main_arg8 (by decide) (by decide) (by decide), VA_of m c main_arg8 (by decide)]
  pointwise
theorem VB_e (k : Fin 64) : (VB m c main_call0_v4 : Vec Ideal S1x64 .f32) (ix2 0 k) = m ((c.tc : Thread nD τ).loc main_arg9) (ix1 k) := by
  have e : VB m c main_call0_v4 = shapeCast S1x64 (leftA m c main_arg9 : Vec Ideal S64 .f32) shapeCasts_S64_S1x64 := by
    unfold VB
    rfl
  rw [e, leftA_of m c main_arg9 (by decide) (by decide) (by decide), VA_of m c main_arg9 (by decide)]
  pointwise

/-- The kernel's result at an entry: its normalisation of the second product over the signed bytes. -/
theorem kernel_at (i : Fin 10000) (l : Fin 64) :
    ((datB (VB m) c).arrAt 5 cfg1.N : Vec Ideal S10000x64 .f32) (ix2 i l)
      = kNorm (kMix (fun i k => m ((c.tc : Thread nD τ).loc main_arg1) (ix2 i k))
          (kFeat (fun i k => m ((c.tc : Thread nD τ).loc main_arg0) (ix2 i k)) (fun i k => m ((c.tc : Thread nD τ).loc main_arg1) (ix2 i k))
            (fun i k => m ((c.tc : Thread nD τ).loc main_arg2) (ix2 i k)) (fun k => m ((c.tc : Thread nD τ).loc main_arg4) (ix1 k))
            (fun k => m ((c.tc : Thread nD τ).loc main_arg5) (ix1 k)) (fun i k => m ((c.tc : Thread nD τ).loc main_arg6) (ix2 i k))))
          (fun k => m ((c.tc : Thread nD τ).loc main_arg8) (ix1 k)) (fun k => m ((c.tc : Thread nD τ).loc main_arg9) (ix1 k)) i l := by
  have hx : xM (VA m) c = fun i k => m ((c.tc : Thread nD τ).loc main_arg0) (ix2 i k) := by
    unfold xM; rw [VA_of m c main_arg0 (by decide)]
  have ha : aM (VA m) c = fun i k => m ((c.tc : Thread nD τ).loc main_arg1) (ix2 i k) := by
    unfold aM; rw [VA_of m c main_arg1 (by decide)]
  have hw : wM (VA m) c = fun i k => m ((c.tc : Thread nD τ).loc main_arg2) (ix2 i k) := by
    unfold wM; rw [VA_of m c main_arg2 (by decide)]
  have hv : vM (VA m) c = fun i k => m ((c.tc : Thread nD τ).loc main_arg6) (ix2 i k) := by
    unfold vM; rw [VA_of m c main_arg6 (by decide)]
  have hg : gM (VA m) c = fun k => m ((c.tc : Thread nD τ).loc main_arg4) (ix1 k) := funext fun k => VA_g m c k
  have he : eM (VA m) c = fun k => m ((c.tc : Thread nD τ).loc main_arg5) (ix1 k) := funext fun k => VA_e m c k
  rw [leaves_out]
  rw [← hx, ← ha, ← hw, ← hv, ← hg, ← he]
  refine OUT_at (VB m) c (aM (VA m) c) (kFeat (xM (VA m) c) (aM (VA m) c) (wM (VA m) c) (gM (VA m) c) (eM (VA m) c) (vM (VA m) c))
    (fun i k => ?_) (fun i l => ?_) (fun l => ?_) _ _ (VB_g m c) (VB_e m c) i l
  · rw [VB_of m c main_call0_v2_0 (by decide), leftA_q, leaves_q]
    rfl
  · rw [VB_of m c main_call0_v2_1 (by decide), leftA_s2, leaves_s2, S2_at]
  · rw [VB_of m c main_call0_v2_2 (by decide), leftA_cs, leaves_cs, CS_at]

end Cert.KernelIdeal.Hand
end
-- ==== Proof.Ref.lean ====
/-
  The reference over the extended reals, read at an index.
-/
module

public import proofs.«01_k».proof.Proof.Gen.ReferenceIdeal.Run
public import proofs.«01_k».proof.Proof.Layers
public import Idealize.ShloMosaic.Lib.Pipeline.ValueKit

@[expose] public section

set_option maxRecDepth 16384

noncomputable section

namespace Cert.ReferenceIdeal.At

open Cert.ReferenceIdeal Cert.ReferenceIdeal.Gen
open Idealize.ShloMosaic
open Idealize.ShloMosaic.TcCoe Idealize.ShloMosaic.Tactic Idealize.SL.Sem

open Cert.Gcn Cert.Consts

/-- No node is left out of the variance: the division is by the number of nodes, and it is positive. -/
theorem count : Ideal.ofBits .f32 0x461C4000#32 - FloatOps.sitofp (F := Ideal) .f32 (0#32 : BitVec 32) = ((10000 : ℝ) : EReal) := by
  have h : FloatOps.sitofp (F := Ideal) .f32 (0#32 : BitVec 32) = (((0#32 : BitVec 32).toInt : ℝ) : EReal) := rfl
  rw [word_n, h, ← EReal.coe_sub]
  norm_num

theorem count_pos : (0 : EReal) < ((10000 : ℝ) : EReal) := by
  rw [← EReal.coe_zero]; exact EReal.coe_lt_coe_iff.2 (by norm_num)

/-- The two bounds that the quantiser clips at. -/
theorem bound_top : FloatOps.ofBits (F := Ideal) .f32 0x437F0000#32 = ((255 : ℝ) : EReal) := word_steps
theorem bound_zero : FloatOps.ofBits (F := Ideal) .f32 0x00000000#32 = (0 : EReal) := Ideal.ofBits_zero_f32

/-- The reference's result at an index: its normalisation of the quantised second product. -/
theorem ref_at (m : (ℓ : Loc nD τ sig) → Buf (Elt Ideal) ℓ) (c : Dev nD) (j : S10000x64.Idx) :
    Cert.ReferenceIdeal.Value.res_main_v55 m c j
      = rNorm (mm (fun i k => quant (m ((c.tc : Thread nD τ).loc main_arg1) (ix2 i k)))
          (rFeat (fun i k => m ((c.tc : Thread nD τ).loc main_arg0) (ix2 i k)) (fun i k => m ((c.tc : Thread nD τ).loc main_arg1) (ix2 i k))
            (fun i k => m ((c.tc : Thread nD τ).loc main_arg2) (ix2 i k)) (fun k => m ((c.tc : Thread nD τ).loc main_arg3) (ix1 k))
            (fun k => m ((c.tc : Thread nD τ).loc main_arg4) (ix1 k)) (fun k => m ((c.tc : Thread nD τ).loc main_arg5) (ix1 k))
            (fun i k => m ((c.tc : Thread nD τ).loc main_arg6) (ix2 i k))))
          (fun k => m ((c.tc : Thread nD τ).loc main_arg7) (ix1 k)) (fun k => m ((c.tc : Thread nD τ).loc main_arg8) (ix1 k))
          (fun k => m ((c.tc : Thread nD τ).loc main_arg9) (ix1 k)) (j 0) (j 1) := by
  pointwise [Cert.ReferenceIdeal.Value.res_main_v55]
  simp only [count, if_pos count_pos]
  simp only [id, constant]
  simp only [bound_top, bound_zero, word_n, word_steps, word_eps]
  simp only [rNorm, mm, rFeat, rbn, mean, var, quant]

end Cert.ReferenceIdeal.At
end
-- ==== Proof.Alg.lean ====
/-
  The value claim: on finite arguments (the last shift aside) the kernel and the reference, both over the extended reals,
  leave one array.
-/
module

public import proofs.«01_k».proof.Defs
public import proofs.«01_k».proof.Proof.RunMain
public import proofs.«01_k».proof.Proof.Val
public import proofs.«01_k».proof.Proof.Ref
public import proofs.«01_k».proof.Proof.Fin
public import proofs.«01_k».proof.Proof.Gen.KernelIdeal
public import proofs.«01_k».proof.Proof.Gen.ReferenceIdeal

@[expose] public section

set_option maxRecDepth 16384

noncomputable section

namespace Cert.Proof.Alg

open Idealize.ShloMosaic Idealize.SL.Sem
open Idealize.ShloMosaic.TcCoe
open Cert.Gcn

/-- The two layers agree where every entry but the last shift's is a real. -/
theorem layers_of_real (x : Fin 10000 → Fin 128 → EReal) (a : Fin 10000 → Fin 10000 → EReal) (w : Fin 128 → Fin 128 → EReal)
    (β γ e : Fin 128 → EReal) (w' : Fin 128 → Fin 64 → EReal) (β' γ' e' : Fin 64 → EReal)
    (hx : ∀ i k, ((x i k).toReal : EReal) = x i k) (ha : ∀ i k, ((a i k).toReal : EReal) = a i k) (hw : ∀ i k, ((w i k).toReal : EReal) = w i k)
    (hβ : ∀ k, ((β k).toReal : EReal) = β k) (hγ : ∀ k, ((γ k).toReal : EReal) = γ k) (he : ∀ k, ((e k).toReal : EReal) = e k)
    (hw' : ∀ i k, ((w' i k).toReal : EReal) = w' i k) (hβ' : ∀ k, ((β' k).toReal : EReal) = β' k) (hγ' : ∀ k, ((γ' k).toReal : EReal) = γ' k) :
    kNorm (kMix a (kFeat x a w γ e w')) γ' e' = rNorm (mm (fun i k => quant (a i k)) (rFeat x a w β γ e w')) β' γ' e' := by
  have h := layers_eq (fun i k => (x i k).toReal) (fun i k => (a i k).toReal) (fun i k => (w i k).toReal) (fun k => (β k).toReal)
    (fun k => (γ k).toReal) (fun k => (e k).toReal) (fun i k => (w' i k).toReal) (fun k => (β' k).toReal) (fun k => (γ' k).toReal) e'
  simp only [hx, ha, hw, hβ, hγ, he, hw', hβ', hγ'] at h
  exact h

section Equal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's array is what the kernel's second pass leaves. -/
theorem equal (hp : Cert.Pre_KernelIdeal_finite (hPre_finite := Cert.Pre_finite.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    : Cert.ReferenceIdeal.Value.res_main_v55 m' c
      = (Cert.KernelIdeal.Hand.datB (Cert.KernelIdeal.Hand.VB m) c).arrAt 5 Cert.KernelIdeal.cfg1.N := by
  obtain ⟨r0, r1, r2, r3, r4, r5, r6, r7, r8⟩ := Cert.Pre_finite.reals _ _ _ _ _ _ _ _ _ _ ix0 (congrFun (hp c) ix0)
  funext j
  have hj : j = ix2 (j 0) (j 1) := by funext a; fin_cases a <;> rfl
  rw [Cert.ReferenceIdeal.At.ref_at, h0, h1, h2, h3, h4, h5, h6, h7, h8, h9]
  refine Eq.trans ?_ (congrArg _ hj.symm)
  refine Eq.trans ?_ (Cert.KernelIdeal.Hand.kernel_at m c (j 0) (j 1)).symm
  refine (congrFun (congrFun (layers_of_real _ _ _ _ _ _ _ _ _ _ (fun i k => r0 (ix2 i k)) (fun i k => r1 (ix2 i k)) (fun i k => r2 (ix2 i k))
    (fun k => r3 (ix1 k)) (fun k => r4 (ix1 k)) (fun k => r5 (ix1 k)) (fun i k => r6 (ix2 i k)) (fun k => r7 (ix1 k)) (fun k => r8 (ix1 k))) _) _).symm

end Equal

/-- Both run, end with one array on each device, and leave their arguments alone. -/
theorem algebraic : Cert.algebraic_KernelIdeal_ReferenceIdeal_pre_finite (hPre_finite := Cert.Pre_finite.facts) := by
  intro m g m' g' hp hm
  refine ⟨fun c => (Cert.KernelIdeal.Hand.datB (Cert.KernelIdeal.Hand.VB m) c).arrAt 5 Cert.KernelIdeal.cfg1.N, ?_, ?_⟩
  · refine (θ_run Cert.KernelIdeal.defs _ _).mono (fun r h c => ?_) (Cert.KernelIdeal.Hand.run (F := Ideal) m g)
    obtain ⟨a0, a1, a2, a3, a4, a5, a6, a7, a8, a9, o⟩ := h.1 c
    exact ⟨o, a0, a1, a2, a3, a4, a5, a6, a7, a8, a9⟩
  · refine (θ_run Cert.ReferenceIdeal.defs _ _).mono (fun r h c => ?_) (Cert.ReferenceIdeal.Value.run (F := Ideal) m' g')
    obtain ⟨h0, h1, h2, h3, h4, h5, h6, h7, h8, h9⟩ := hm c
    exact ⟨(h c).1.trans (equal m m' hp c h0 h1 h2 h3 h4 h5 h6 h7 h8 h9), (h c).2⟩

end Cert.Proof.Alg

end
-- ==== Proof.Plain.lean ====
/-
  reference.py over the extended reals, without a quantiser, read at an index.
-/
module

public import proofs.«01_k».proof.Proof.Gen.PlainIdeal.Run
public import proofs.«01_k».proof.Proof.Ref
public import Idealize.ShloMosaic.Lib.Pipeline.ValueKit

@[expose] public section

set_option maxRecDepth 16384

noncomputable section

namespace Cert.PlainIdeal.At

open Cert.PlainIdeal Cert.PlainIdeal.Gen
open Idealize.ShloMosaic
open Idealize.ShloMosaic.TcCoe Idealize.ShloMosaic.Tactic Idealize.SL.Sem

open Cert.Gcn Cert.Consts
open Cert.ReferenceIdeal.At (count count_pos)

/-- Its result at an index: the same normalisation, of the second product over the adjacency as it is given. -/
theorem plain_at (m : (ℓ : Loc nD τ sig) → Buf (Elt Ideal) ℓ) (c : Dev nD) (j : S10000x64.Idx) :
    Cert.PlainIdeal.Value.res_main_v49 m c j
      = rNorm (mm (fun i k => m ((c.tc : Thread nD τ).loc main_arg1) (ix2 i k))
          (rFeat (fun i k => m ((c.tc : Thread nD τ).loc main_arg0) (ix2 i k)) (fun i k => m ((c.tc : Thread nD τ).loc main_arg1) (ix2 i k))
            (fun i k => m ((c.tc : Thread nD τ).loc main_arg2) (ix2 i k)) (fun k => m ((c.tc : Thread nD τ).loc main_arg3) (ix1 k))
            (fun k => m ((c.tc : Thread nD τ).loc main_arg4) (ix1 k)) (fun k => m ((c.tc : Thread nD τ).loc main_arg5) (ix1 k))
            (fun i k => m ((c.tc : Thread nD τ).loc main_arg6) (ix2 i k))))
          (fun k => m ((c.tc : Thread nD τ).loc main_arg7) (ix1 k)) (fun k => m ((c.tc : Thread nD τ).loc main_arg8) (ix1 k))
          (fun k => m ((c.tc : Thread nD τ).loc main_arg9) (ix1 k)) (j 0) (j 1) := by
  pointwise [Cert.PlainIdeal.Value.res_main_v49]
  simp only [count, if_pos count_pos]
  simp only [word_n, word_eps]
  simp only [rNorm, mm, rFeat, rbn, mean, var]

end Cert.PlainIdeal.At
end
-- ==== Proof.AlgPlain.lean ====
/-
  The value claim against reference.py as it stands: where the quantiser keeps the adjacency, the kernel leaves its array.
-/
module

public import proofs.«01_k».proof.Proof.Alg
public import proofs.«01_k».proof.Proof.Plain
public import proofs.«01_k».proof.Proof.Stepped
public import proofs.«01_k».proof.Proof.Gen.PlainIdeal

@[expose] public section

set_option maxRecDepth 16384

noncomputable section

namespace Cert.Proof.AlgPlain

open Idealize.ShloMosaic Idealize.SL.Sem
open Idealize.ShloMosaic.TcCoe
open Cert.Gcn
open Cert.Proof.Alg (layers_of_real)

section Equal

variable (m : (ℓ : Loc Cert.KernelIdeal.nD Cert.KernelIdeal.τ Cert.KernelIdeal.sig) → Buf (Elt Ideal) ℓ)
  (m' : (ℓ : Loc Cert.PlainIdeal.nD Cert.PlainIdeal.τ Cert.PlainIdeal.sig) → Buf (Elt Ideal) ℓ)

/-- reference.py's array is what the kernel's second pass leaves. -/
theorem equal (hp : Cert.Pre_KernelIdeal_stepped (hPre_stepped := Cert.Pre_stepped.facts) m) (c : Dev Cert.KernelIdeal.nD)
    (h0 : m' ((c.tc : Thread Cert.PlainIdeal.nD Cert.PlainIdeal.τ).loc Cert.PlainIdeal.main_arg0) = m ((c.tc : Thread Cert.KernelIdeal.nD Cert.KernelIdeal.τ).loc Cert.KernelIdeal.main_arg0))
    (h1 : m' ((c.tc : Thread Cert.PlainIdeal.nD Cert.PlainIdeal.τ).loc Cert.PlainIdeal.main_arg1) = m ((c.tc : Thread Cert.KernelIdeal.nD Cert.KernelIdeal.τ).loc Cert.KernelIdeal.main_arg1))
    (h2 : m' ((c.tc : Thread Cert.PlainIdeal.nD Cert.PlainIdeal.τ).loc Cert.PlainIdeal.main_arg2) = m ((c.tc : Thread Cert.KernelIdeal.nD Cert.KernelIdeal.τ).loc Cert.KernelIdeal.main_arg2))
    (h3 : m' ((c.tc : Thread Cert.PlainIdeal.nD Cert.PlainIdeal.τ).loc Cert.PlainIdeal.main_arg3) = m ((c.tc : Thread Cert.KernelIdeal.nD Cert.KernelIdeal.τ).loc Cert.KernelIdeal.main_arg3))
    (h4 : m' ((c.tc : Thread Cert.PlainIdeal.nD Cert.PlainIdeal.τ).loc Cert.PlainIdeal.main_arg4) = m ((c.tc : Thread Cert.KernelIdeal.nD Cert.KernelIdeal.τ).loc Cert.KernelIdeal.main_arg4))
    (h5 : m' ((c.tc : Thread Cert.PlainIdeal.nD Cert.PlainIdeal.τ).loc Cert.PlainIdeal.main_arg5) = m ((c.tc : Thread Cert.KernelIdeal.nD Cert.KernelIdeal.τ).loc Cert.KernelIdeal.main_arg5))
    (h6 : m' ((c.tc : Thread Cert.PlainIdeal.nD Cert.PlainIdeal.τ).loc Cert.PlainIdeal.main_arg6) = m ((c.tc : Thread Cert.KernelIdeal.nD Cert.KernelIdeal.τ).loc Cert.KernelIdeal.main_arg6))
    (h7 : m' ((c.tc : Thread Cert.PlainIdeal.nD Cert.PlainIdeal.τ).loc Cert.PlainIdeal.main_arg7) = m ((c.tc : Thread Cert.KernelIdeal.nD Cert.KernelIdeal.τ).loc Cert.KernelIdeal.main_arg7))
    (h8 : m' ((c.tc : Thread Cert.PlainIdeal.nD Cert.PlainIdeal.τ).loc Cert.PlainIdeal.main_arg8) = m ((c.tc : Thread Cert.KernelIdeal.nD Cert.KernelIdeal.τ).loc Cert.KernelIdeal.main_arg8))
    (h9 : m' ((c.tc : Thread Cert.PlainIdeal.nD Cert.PlainIdeal.τ).loc Cert.PlainIdeal.main_arg9) = m ((c.tc : Thread Cert.KernelIdeal.nD Cert.KernelIdeal.τ).loc Cert.KernelIdeal.main_arg9))
    : Cert.PlainIdeal.Value.res_main_v49 m' c
      = (Cert.KernelIdeal.Hand.datB (Cert.KernelIdeal.Hand.VB m) c).arrAt 5 Cert.KernelIdeal.cfg1.N := by
  obtain ⟨r0, r1, r2, r3, r4, r5, r6, r7, r8⟩ := Cert.Pre_stepped.reals _ _ _ _ _ _ _ _ _ _ ix0 (congrFun (hp c) ix0)
  funext j
  have hj : j = ix2 (j 0) (j 1) := by funext a; fin_cases a <;> rfl
  rw [Cert.PlainIdeal.At.plain_at, h0, h1, h2, h3, h4, h5, h6, h7, h8, h9]
  refine Eq.trans ?_ (congrArg _ hj.symm)
  refine Eq.trans ?_ (Cert.KernelIdeal.Hand.kernel_at m c (j 0) (j 1)).symm
  refine Eq.trans ?_ (congrFun (congrFun (layers_of_real _ _ _ _ _ _ _ _ _ _ (fun i k => r0 (ix2 i k)) (fun i k => Cert.Pre_stepped.real_of_kept _ (r1 (ix2 i k))) (fun i k => r2 (ix2 i k))
    (fun k => r3 (ix1 k)) (fun k => r4 (ix1 k)) (fun k => r5 (ix1 k)) (fun i k => r6 (ix2 i k)) (fun k => r7 (ix1 k)) (fun k => r8 (ix1 k))) _) _).symm
  rw [funext fun i => funext fun k => r1 (ix2 i k)]

end Equal

/-- Both run, end with one array on each device, and leave their arguments alone. -/
theorem algebraic : Cert.algebraic_KernelIdeal_PlainIdeal_pre_stepped (hPre_stepped := Cert.Pre_stepped.facts) := by
  intro m g m' g' hp hm
  refine ⟨fun c => (Cert.KernelIdeal.Hand.datB (Cert.KernelIdeal.Hand.VB m) c).arrAt 5 Cert.KernelIdeal.cfg1.N, ?_, ?_⟩
  · refine (θ_run Cert.KernelIdeal.defs _ _).mono (fun r h c => ?_) (Cert.KernelIdeal.Hand.run (F := Ideal) m g)
    obtain ⟨a0, a1, a2, a3, a4, a5, a6, a7, a8, a9, o⟩ := h.1 c
    exact ⟨o, a0, a1, a2, a3, a4, a5, a6, a7, a8, a9⟩
  · refine (θ_run Cert.PlainIdeal.defs _ _).mono (fun r h c => ?_) (Cert.PlainIdeal.Value.run (F := Ideal) m' g')
    obtain ⟨h0, h1, h2, h3, h4, h5, h6, h7, h8, h9⟩ := hm c
    exact ⟨(h c).1.trans (equal m m' hp c h0 h1 h2 h3 h4 h5 h6 h7 h8 h9), (h c).2⟩

end Cert.Proof.AlgPlain

end
-- ==== Proof.lean ====
/-
  The certificate: the frames of the kernel (as printed and over the extended reals) and of the reference, that the
  kernel over the extended reals is the printed one with its rounded quotients named, and that its result is the
  reference's.
-/
module

public import proofs.«01_k».proof.Defs
public import proofs.«01_k».proof.Proof.Claims
public import proofs.«01_k».proof.Proof.Alg
public import proofs.«01_k».proof.Proof.AlgPlain
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.PlainIdeal
public import proofs.«01_k».proof.Proof.Gen.PlainIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.PlainIdeal.Gen.facts,
    Cert.Pre_finite.facts, Cert.Pre_stepped.facts,
    Claims.frame_p, Claims.frame_pi, Claims.frame_pi_finite, Claims.frame_pi_stepped, Claims.frame_ri, Claims.frame_ri_finite,
    Claims.frame_si, Claims.frame_si_stepped, Claims.preserves, Alg.algebraic, AlgPlain.algebraic⟩

end Cert.Proof

end
